-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_rows_finite [hPre_rows_finite : Cert.Pre_rows_finite.Facts] (m : (ℓ : Loc Cert.KernelIdeal.nD Cert.KernelIdeal.τ Cert.KernelIdeal.sig) → Buf (Elt Ideal) ℓ) : Prop :=
  ∀ c : Dev Cert.KernelIdeal.nD,
    (Cert.Pre_rows_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_rows_finite [hPre_rows_finite : Cert.Pre_rows_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_rows_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ r.2.sem = fun _ => 0)

def quiescent_KernelIdeal_pre_rows_finite [hKernelIdeal : Cert.KernelIdeal.Facts] [hPre_rows_finite : Cert.Pre_rows_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_rows_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))
      ∧ r.2.sem = fun _ => 0)

def quiescent_ReferenceIdeal_pre_rows_finite [hReferenceIdeal : Cert.ReferenceIdeal.Facts] [hPre_rows_finite : Cert.Pre_rows_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_rows_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))
      ∧ r.2.sem = fun _ => 0)

def preserves_Kernel_KernelIdeal : Prop :=
  IdealRules.named_const.Statement Cert.KernelIdeal.κ "tenth" .f32 0x3DCCCCCD#32 ((1 / 10 : ℝ) : EReal)

def algebraic_KernelIdeal_ReferenceIdeal_pre_rows_finite [hKernelIdeal : Cert.KernelIdeal.Facts] [hReferenceIdeal : Cert.ReferenceIdeal.Facts] [hPre_rows_finite : Cert.Pre_rows_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_rows_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v87) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17))

def Claim : Prop :=
  ∃ (hKernel : Cert.Kernel.Facts) (hKernelIdeal : Cert.KernelIdeal.Facts) (hReferenceIdeal : Cert.ReferenceIdeal.Facts) (hPre_rows_finite : Cert.Pre_rows_finite.Facts),
    quiescent_Kernel (hKernel := hKernel)
    ∧ quiescent_KernelIdeal (hKernelIdeal := hKernelIdeal)
    ∧ quiescent_KernelIdeal_pre_rows_finite (hKernelIdeal := hKernelIdeal) (hPre_rows_finite := hPre_rows_finite)
    ∧ quiescent_ReferenceIdeal (hReferenceIdeal := hReferenceIdeal)
    ∧ quiescent_ReferenceIdeal_pre_rows_finite (hReferenceIdeal := hReferenceIdeal) (hPre_rows_finite := hPre_rows_finite)
    ∧ preserves_Kernel_KernelIdeal
    ∧ algebraic_KernelIdeal_ReferenceIdeal_pre_rows_finite (hKernelIdeal := hKernelIdeal) (hReferenceIdeal := hReferenceIdeal) (hPre_rows_finite := hPre_rows_finite)
-- ==== Pre_rows_finite.lean ====
abbrev S16384x128 : Shape := ⟨2, ![16384, 128]⟩
abbrev S10x10x128 : Shape := ⟨3, ![10, 10, 128]⟩
abbrev S128x64 : Shape := ⟨2, ![128, 64]⟩
abbrev S64 : Shape := ⟨1, ![64]⟩
abbrev S64x32 : Shape := ⟨2, ![64, 32]⟩
abbrev S32 : Shape := ⟨1, ![32]⟩
abbrev S32x4 : Shape := ⟨2, ![32, 4]⟩
abbrev S4 : Shape := ⟨1, ![4]⟩
abbrev S4x32 : Shape := ⟨2, ![4, 32]⟩
abbrev S32x64 : Shape := ⟨2, ![32, 64]⟩
abbrev S64x128 : Shape := ⟨2, ![64, 128]⟩
abbrev S128 : Shape := ⟨1, ![128]⟩
abbrev S8x10 : Shape := ⟨2, ![8, 10]⟩
abbrev S10 : Shape := ⟨1, ![10]⟩
abbrev S10x4 : Shape := ⟨2, ![10, 4]⟩
abbrev S100x128 : Shape := ⟨2, ![100, 128]⟩
abbrev S1x128 : Shape := ⟨2, ![1, 128]⟩
abbrev S16549x128 : Shape := ⟨2, ![16549, 128]⟩
abbrev S_ : Shape := ⟨0, ![]⟩

class Facts : Prop where
  shapeCasts_S10x10x128_S100x128 : S10x10x128.ShapeCasts S100x128
  shapeCasts_S128_S1x128 : S128.ShapeCasts S1x128
  concatenates_S16384x128_S100x128_S64x128_S1x128_S16549x128_d0 : Shape.Concatenates [S16384x128, S100x128, S64x128, S1x128] S16549x128 0
  bcast_S_S16549x128 : S_.BroadcastsInDim S16549x128 (![] : Fin 0 → Fin S16549x128.rank)

variable [Facts]

def fn {F : FTy → Type} [FloatOps F] (main_arg0 : FVec F S16384x128 .f32) (main_arg1 : FVec F S10x10x128 .f32) (main_arg2 : FVec F S128x64 .f32) (main_arg3 : FVec F S64 .f32) (main_arg4 : FVec F S64x32 .f32) (main_arg5 : FVec F S32 .f32) (main_arg6 : FVec F S32x4 .f32) (main_arg7 : FVec F S4 .f32) (main_arg8 : FVec F S4x32 .f32) (main_arg9 : FVec F S32 .f32) (main_arg10 : FVec F S32x64 .f32) (main_arg11 : FVec F S64 .f32) (main_arg12 : FVec F S64x128 .f32) (main_arg13 : FVec F S128 .f32) (main_arg14 : FVec F S8x10 .f32) (main_arg15 : FVec F S10 .f32) (main_arg16 : FVec F S10x4 .f32) (main_arg17 : FVec F S4 .f32) : IVec S16549x128 1 :=
  let main_v0 : FVec F S100x128 .f32 := shapeCast S100x128 main_arg1 shapeCasts_S10x10x128_S100x128
  let main_v1 : FVec F S1x128 .f32 := shapeCast S1x128 main_arg13 shapeCasts_S128_S1x128
  let main_v2 : FVec F S16549x128 .f32 := concatenate S16549x128 0 [⟨S16384x128, main_arg0⟩, ⟨S100x128, main_v0⟩, ⟨S64x128, main_arg12⟩, ⟨S1x128, main_v1⟩] concatenates_S16384x128_S100x128_S64x128_S1x128_S16549x128_d0
  let main_v3 : FVec F S16549x128 .f32 := Host.absf main_v2
  let main_cst : FVec F S_ .f32 := constant S_ .f32 0x7F800000#32
  let main_v4 : FVec F S16549x128 .f32 := broadcastInDim S16549x128 ![] bcast_S_S16549x128 main_cst
  let main_v5 : IVec S16549x128 1 := cmpf .olt main_v3 main_v4
  main_v5
-- ==== Kernel.lean ====
abbrev S16384x128 : Shape := ⟨2, ![16384, 128]⟩
abbrev S10x10x128 : Shape := ⟨3, ![10, 10, 128]⟩
abbrev S128x64 : Shape := ⟨2, ![128, 64]⟩
abbrev S64 : Shape := ⟨1, ![64]⟩
abbrev S64x32 : Shape := ⟨2, ![64, 32]⟩
abbrev S32 : Shape := ⟨1, ![32]⟩
abbrev S32x4 : Shape := ⟨2, ![32, 4]⟩
abbrev S4 : Shape := ⟨1, ![4]⟩
abbrev S4x32 : Shape := ⟨2, ![4, 32]⟩
abbrev S32x64 : Shape := ⟨2, ![32, 64]⟩
abbrev S64x128 : Shape := ⟨2, ![64, 128]⟩
abbrev S128 : Shape := ⟨1, ![128]⟩
abbrev S8x10 : Shape := ⟨2, ![8, 10]⟩
abbrev S10 : Shape := ⟨1, ![10]⟩
abbrev S10x4 : Shape := ⟨2, ![10, 4]⟩
abbrev S100x128 : Shape := ⟨2, ![100, 128]⟩
abbrev S1x64 : Shape := ⟨2, ![1, 64]⟩
abbrev S1x32 : Shape := ⟨2, ![1, 32]⟩
abbrev S1x4 : Shape := ⟨2, ![1, 4]⟩
abbrev S1x128 : Shape := ⟨2, ![1, 128]⟩
abbrev S1x10 : Shape := ⟨2, ![1, 10]⟩
abbrev S16384x4 : Shape := ⟨2, ![16384, 4]⟩
abbrev S4x4096x128 : Shape := ⟨3, ![4, 4096, 128]⟩
abbrev S4x4096x4 : Shape := ⟨3, ![4, 4096, 4]⟩
abbrev S17 : Shape := ⟨1, ![17]⟩
abbrev S1 : Shape := ⟨1, ![1]⟩
abbrev S_ : Shape := ⟨0, ![]⟩
abbrev S1x4096x128 : Shape := ⟨3, ![1, 4096, 128]⟩
abbrev S4096x128 : Shape := ⟨2, ![4096, 128]⟩
abbrev S100 : Shape := ⟨1, ![100]⟩
abbrev S100x1 : Shape := ⟨2, ![100, 1]⟩
abbrev S128x128 : Shape := ⟨2, ![128, 128]⟩
abbrev S64x1 : Shape := ⟨2, ![64, 1]⟩
abbrev S32x1 : Shape := ⟨2, ![32, 1]⟩
abbrev S4x1 : Shape := ⟨2, ![4, 1]⟩
abbrev S128x1 : Shape := ⟨2, ![128, 1]⟩
abbrev S10x1 : Shape := ⟨2, ![10, 1]⟩
abbrev S100x4096 : Shape := ⟨2, ![100, 4096]⟩
abbrev S4096 : Shape := ⟨1, ![4096]⟩
abbrev S1x4096 : Shape := ⟨2, ![1, 4096]⟩
abbrev S128x4096 : Shape := ⟨2, ![128, 4096]⟩
abbrev S64x4096 : Shape := ⟨2, ![64, 4096]⟩
abbrev S32x4096 : Shape := ⟨2, ![32, 4096]⟩
abbrev S4x4096 : Shape := ⟨2, ![4, 4096]⟩
abbrev S8x4096 : Shape := ⟨2, ![8, 4096]⟩
abbrev S10x4096 : Shape := ⟨2, ![10, 4096]⟩
abbrev S4096x4 : Shape := ⟨2, ![4096, 4]⟩
abbrev S1x4096x4 : Shape := ⟨3, ![1, 4096, 4]⟩

abbrev nBuf : Space → Nat
  | .hbm => 28
  | .vmem => 19
  | .smem => 0
  | _ => 0

abbrev bufTy : (tb : Table) → Fin (tcTables nBuf tb) → BufTy
  | .hbm, ⟨0, _⟩ => ⟨S16384x128, .f32⟩
  | .hbm, ⟨1, _⟩ => ⟨S10x10x128, .f32⟩
  | .hbm, ⟨2, _⟩ => ⟨S128x64, .f32⟩
  | .hbm, ⟨3, _⟩ => ⟨S64, .f32⟩
  | .hbm, ⟨4, _⟩ => ⟨S64x32, .f32⟩
  | .hbm, ⟨5, _⟩ => ⟨S32, .f32⟩
  | .hbm, ⟨6, _⟩ => ⟨S32x4, .f32⟩
  | .hbm, ⟨7, _⟩ => ⟨S4, .f32⟩
  | .hbm, ⟨8, _⟩ => ⟨S4x32, .f32⟩
  | .hbm, ⟨9, _⟩ => ⟨S32, .f32⟩
  | .hbm, ⟨10, _⟩ => ⟨S32x64, .f32⟩
  | .hbm, ⟨11, _⟩ => ⟨S64, .f32⟩
  | .hbm, ⟨12, _⟩ => ⟨S64x128, .f32⟩
  | .hbm, ⟨13, _⟩ => ⟨S128, .f32⟩
  | .hbm, ⟨14, _⟩ => ⟨S8x10, .f32⟩
  | .hbm, ⟨15, _⟩ => ⟨S10, .f32⟩
  | .hbm, ⟨16, _⟩ => ⟨S10x4, .f32⟩
  | .hbm, ⟨17, _⟩ => ⟨S4, .f32⟩
  | .hbm, ⟨18, _⟩ => ⟨S100x128, .f32⟩
  | .hbm, ⟨19, _⟩ => ⟨S1x64, .f32⟩
  | .hbm, ⟨20, _⟩ => ⟨S1x32, .f32⟩
  | .hbm, ⟨21, _⟩ => ⟨S1x4, .f32⟩
  | .hbm, ⟨22, _⟩ => ⟨S1x32, .f32⟩
  | .hbm, ⟨23, _⟩ => ⟨S1x64, .f32⟩
  | .hbm, ⟨24, _⟩ => ⟨S1x128, .f32⟩
  | .hbm, ⟨25, _⟩ => ⟨S1x10, .f32⟩
  | .hbm, ⟨26, _⟩ => ⟨S1x4, .f32⟩
  | .hbm, ⟨27, _⟩ => ⟨S16384x4, .f32⟩
  | .local _ .vmem, ⟨0, _⟩ => ⟨S4x4096x128, .f32⟩
  | .local _ .vmem, ⟨1, _⟩ => ⟨S4x4096x4, .f32⟩
  | .local _ .vmem, ⟨2, _⟩ => ⟨S100x128, .f32⟩
  | .local _ .vmem, ⟨3, _⟩ => ⟨S128x64, .f32⟩
  | .local _ .vmem, ⟨4, _⟩ => ⟨S1x64, .f32⟩
  | .local _ .vmem, ⟨5, _⟩ => ⟨S64x32, .f32⟩
  | .local _ .vmem, ⟨6, _⟩ => ⟨S1x32, .f32⟩
  | .local _ .vmem, ⟨7, _⟩ => ⟨S32x4, .f32⟩
  | .local _ .vmem, ⟨8, _⟩ => ⟨S1x4, .f32⟩
  | .local _ .vmem, ⟨9, _⟩ => ⟨S4x32, .f32⟩
  | .local _ .vmem, ⟨10, _⟩ => ⟨S1x32, .f32⟩
  | .local _ .vmem, ⟨11, _⟩ => ⟨S32x64, .f32⟩
  | .local _ .vmem, ⟨12, _⟩ => ⟨S1x64, .f32⟩
  | .local _ .vmem, ⟨13, _⟩ => ⟨S64x128, .f32⟩
  | .local _ .vmem, ⟨14, _⟩ => ⟨S1x128, .f32⟩
  | .local _ .vmem, ⟨15, _⟩ => ⟨S8x10, .f32⟩
  | .local _ .vmem, ⟨16, _⟩ => ⟨S1x10, .f32⟩
  | .local _ .vmem, ⟨17, _⟩ => ⟨S10x4, .f32⟩
  | .local _ .vmem, ⟨18, _⟩ => ⟨S1x4, .f32⟩
  | _, _ => ⟨S16384x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev cc0_scratch3 : Ref sig .tc := ⟨.vmem, 3, rfl⟩
abbrev cc0_scratch4 : Ref sig .tc := ⟨.vmem, 4, rfl⟩
abbrev cc0_scratch5 : Ref sig .tc := ⟨.vmem, 5, rfl⟩
abbrev cc0_scratch6 : Ref sig .tc := ⟨.vmem, 6, rfl⟩
abbrev cc0_scratch7 : Ref sig .tc := ⟨.vmem, 7, rfl⟩
abbrev cc0_scratch8 : Ref sig .tc := ⟨.vmem, 8, rfl⟩
abbrev cc0_scratch9 : Ref sig .tc := ⟨.vmem, 9, rfl⟩
abbrev cc0_scratch10 : Ref sig .tc := ⟨.vmem, 10, rfl⟩
abbrev cc0_scratch11 : Ref sig .tc := ⟨.vmem, 11, rfl⟩
abbrev cc0_scratch12 : Ref sig .tc := ⟨.vmem, 12, rfl⟩
abbrev cc0_scratch13 : Ref sig .tc := ⟨.vmem, 13, rfl⟩
abbrev cc0_scratch14 : Ref sig .tc := ⟨.vmem, 14, rfl⟩
abbrev cc0_scratch15 : Ref sig .tc := ⟨.vmem, 15, rfl⟩
abbrev cc0_scratch16 : Ref sig .tc := ⟨.vmem, 16, rfl⟩
abbrev cc0_scratch17 : Ref sig .tc := ⟨.vmem, 17, rfl⟩
abbrev cc0_scratch18 : Ref sig .tc := ⟨.vmem, 18, rfl⟩

abbrev nD : Nat := 1
abbrev τ : Topo := Topo.v7x

variable {F : FTy → Type} [FloatOps F]

abbrev grid0 : Pipeline.Grid := .none
-- ==== KernelIdeal.lean ====
variable {F : FTy → Type} [FloatOps F] [Named F]
def κ : String → Option EReal := fun
  | "tenth" => some ((1 / 10 : ℝ) : EReal)
  | _ => none
-- ==== ReferenceIdeal.lean ====
abbrev S16384x128 : Shape := ⟨2, ![16384, 128]⟩
abbrev S10x10x128 : Shape := ⟨3, ![10, 10, 128]⟩
abbrev S128x64 : Shape := ⟨2, ![128, 64]⟩
abbrev S64 : Shape := ⟨1, ![64]⟩
abbrev S64x32 : Shape := ⟨2, ![64, 32]⟩
abbrev S32 : Shape := ⟨1, ![32]⟩
abbrev S32x4 : Shape := ⟨2, ![32, 4]⟩
abbrev S4 : Shape := ⟨1, ![4]⟩
abbrev S4x32 : Shape := ⟨2, ![4, 32]⟩
abbrev S32x64 : Shape := ⟨2, ![32, 64]⟩
abbrev S64x128 : Shape := ⟨2, ![64, 128]⟩
abbrev S128 : Shape := ⟨1, ![128]⟩
abbrev S8x10 : Shape := ⟨2, ![8, 10]⟩
abbrev S10 : Shape := ⟨1, ![10]⟩
abbrev S10x4 : Shape := ⟨2, ![10, 4]⟩
abbrev S100x128 : Shape := ⟨2, ![100, 128]⟩
abbrev S_ : Shape := ⟨0, ![]⟩
abbrev S16384 : Shape := ⟨1, ![16384]⟩
abbrev S16384x1 : Shape := ⟨2, ![16384, 1]⟩
abbrev S100 : Shape := ⟨1, ![100]⟩
abbrev S1x100 : Shape := ⟨2, ![1, 100]⟩
abbrev S128x100 : Shape := ⟨2, ![128, 100]⟩
abbrev S16384x100 : Shape := ⟨2, ![16384, 100]⟩
abbrev S16384x2 : Shape := ⟨2, ![16384, 2]⟩
abbrev S16384x64 : Shape := ⟨2, ![16384, 64]⟩
abbrev S1x64 : Shape := ⟨2, ![1, 64]⟩
abbrev S16384x32 : Shape := ⟨2, ![16384, 32]⟩
abbrev S1x32 : Shape := ⟨2, ![1, 32]⟩
abbrev S16384x4 : Shape := ⟨2, ![16384, 4]⟩
abbrev S1x4 : Shape := ⟨2, ![1, 4]⟩
abbrev S1x128 : Shape := ⟨2, ![1, 128]⟩
abbrev S16384x8 : Shape := ⟨2, ![16384, 8]⟩
abbrev S16384x10 : Shape := ⟨2, ![16384, 10]⟩
abbrev S1x10 : Shape := ⟨2, ![1, 10]⟩

abbrev nBuf : Space → Nat
  | .hbm => 167
  | .vmem => 0
  | .smem => 0
  | _ => 0

abbrev hbmTy0_0 (i : Nat) : BufTy := match i % 128 with
  | 0 => ⟨S16384x128, .f32⟩
  | 1 => ⟨S10x10x128, .f32⟩
  | 2 => ⟨S128x64, .f32⟩
  | 3 => ⟨S64, .f32⟩
  | 4 => ⟨S64x32, .f32⟩
  | 5 => ⟨S32, .f32⟩
  | 6 => ⟨S32x4, .f32⟩
  | 7 => ⟨S4, .f32⟩
  | 8 => ⟨S4x32, .f32⟩
  | 9 => ⟨S32, .f32⟩
  | 10 => ⟨S32x64, .f32⟩
  | 11 => ⟨S64, .f32⟩
  | 12 => ⟨S64x128, .f32⟩
  | 13 => ⟨S128, .f32⟩
  | 14 => ⟨S8x10, .f32⟩
  | 15 => ⟨S10, .f32⟩
  | 16 => ⟨S10x4, .f32⟩
  | 17 => ⟨S4, .f32⟩
  | 18 => ⟨S100x128, .f32⟩
  | 19 => ⟨S16384x128, .f32⟩
  | 20 => ⟨S_, .f32⟩
  | 21 => ⟨S16384, .f32⟩
  | 22 => ⟨S16384x1, .f32⟩
  | 23 => ⟨S100x128, .f32⟩
  | 24 => ⟨S_, .f32⟩
  | 25 => ⟨S100, .f32⟩
  | 26 => ⟨S1x100, .f32⟩
  | 27 => ⟨S128x100, .f32⟩
  | 28 => ⟨S16384x100, .f32⟩
  | 29 => ⟨S_, .f32⟩
  | 30 => ⟨S16384x100, .f32⟩
  | 31 => ⟨S16384x100, .f32⟩
  | 32 => ⟨S16384x100, .f32⟩
  | 33 => ⟨S16384x100, .f32⟩
  | 34 => ⟨S16384x100, .f32⟩
  | 35 => ⟨S16384x100, .f32⟩
  | 36 => ⟨S16384x100, .i32⟩
  | 37 => ⟨S_, .f32⟩
  | 38 => ⟨S_, .i32⟩
  | 39 => ⟨S16384, .f32⟩
  | 40 => ⟨S16384, .i32⟩
  | 41 => ⟨S_, .i32⟩
  | 42 => ⟨S_, .i32⟩
  | 43 => ⟨S16384, .i32⟩
  | 44 => ⟨S16384, .i32⟩
  | 45 => ⟨S16384, .i32⟩
  | 46 => ⟨S_, .i32⟩
  | 47 => ⟨S16384, .i32⟩
  | 48 => ⟨S16384, .i1⟩
  | 49 => ⟨S16384, .i32⟩
  | 50 => ⟨S16384, .i32⟩
  | 51 => ⟨S_, .i32⟩
  | 52 => ⟨S16384, .i32⟩
  | 53 => ⟨S16384, .i1⟩
  | 54 => ⟨S16384, .i1⟩
  | 55 => ⟨S_, .i32⟩
  | 56 => ⟨S16384, .i32⟩
  | 57 => ⟨S16384, .i32⟩
  | 58 => ⟨S16384, .i32⟩
  | 59 => ⟨S_, .i32⟩
  | 60 => ⟨S_, .i32⟩
  | 61 => ⟨S_, .i32⟩
  | 62 => ⟨S_, .i1⟩
  | 63 => ⟨S_, .i32⟩
  | 64 => ⟨S_, .i32⟩
  | 65 => ⟨S16384, .i32⟩
  | 66 => ⟨S16384, .i32⟩
  | 67 => ⟨S_, .i32⟩
  | 68 => ⟨S16384, .i32⟩
  | 69 => ⟨S16384, .i1⟩
  | 70 => ⟨S_, .i32⟩
  | 71 => ⟨S16384, .i32⟩
  | 72 => ⟨S16384, .i1⟩
  | 73 => ⟨S_, .i32⟩
  | 74 => ⟨S_, .i1⟩
  | 75 => ⟨S16384, .i1⟩
  | 76 => ⟨S16384, .i1⟩
  | 77 => ⟨S16384, .i1⟩
  | 78 => ⟨S16384, .i32⟩
  | 79 => ⟨S16384, .i32⟩
  | 80 => ⟨S16384, .i32⟩
  | 81 => ⟨S16384x1, .i32⟩
  | 82 => ⟨S16384x1, .i32⟩
  | 83 => ⟨S16384x2, .i32⟩
  | 84 => ⟨S16384x2, .f32⟩
  | 85 => ⟨S_, .f32⟩
  | 86 => ⟨S16384x2, .f32⟩
  | 87 => ⟨S16384x2, .f32⟩
  | 88 => ⟨S16384x64, .f32⟩
  | 89 => ⟨S1x64, .f32⟩
  | 90 => ⟨S16384x64, .f32⟩
  | 91 => ⟨S16384x64, .f32⟩
  | 92 => ⟨S16384x64, .f32⟩
  | 93 => ⟨S16384x32, .f32⟩
  | 94 => ⟨S1x32, .f32⟩
  | 95 => ⟨S16384x32, .f32⟩
  | 96 => ⟨S16384x32, .f32⟩
  | 97 => ⟨S16384x32, .f32⟩
  | 98 => ⟨S16384x4, .f32⟩
  | 99 => ⟨S1x4, .f32⟩
  | 100 => ⟨S16384x4, .f32⟩
  | 101 => ⟨S16384x4, .f32⟩
  | 102 => ⟨S16384x32, .f32⟩
  | 103 => ⟨S1x32, .f32⟩
  | 104 => ⟨S16384x32, .f32⟩
  | 105 => ⟨S16384x32, .f32⟩
  | 106 => ⟨S16384x32, .f32⟩
  | 107 => ⟨S16384x64, .f32⟩
  | 108 => ⟨S1x64, .f32⟩
  | 109 => ⟨S16384x64, .f32⟩
  | 110 => ⟨S16384x64, .f32⟩
  | 111 => ⟨S16384x64, .f32⟩
  | 112 => ⟨S16384x128, .f32⟩
  | 113 => ⟨S1x128, .f32⟩
  | 114 => ⟨S16384x128, .f32⟩
  | 115 => ⟨S16384x128, .f32⟩
  | 116 => ⟨S16384x128, .f32⟩
  | 117 => ⟨S16384x128, .f32⟩
  | 118 => ⟨S_, .f32⟩
  | 119 => ⟨S16384, .f32⟩
  | 120 => ⟨S16384, .f32⟩
  | 121 => ⟨S16384x128, .f32⟩
  | 122 => ⟨S_, .f32⟩
  | 123 => ⟨S16384, .f32⟩
  | 124 => ⟨S16384, .f32⟩
  | 125 => ⟨S16384x128, .f32⟩
  | 126 => ⟨S_, .f32⟩
  | 127 => ⟨S16384, .f32⟩
  | _ => ⟨S16384x128, .f32⟩

abbrev hbmTy0_1 (i : Nat) : BufTy := match i % 128 with
  | 0 => ⟨S16384, .f32⟩
  | 1 => ⟨S_, .f32⟩
  | 2 => ⟨S16384, .f32⟩
  | 3 => ⟨S16384, .f32⟩
  | 4 => ⟨S16384, .f32⟩
  | 5 => ⟨S16384x128, .f32⟩
  | 6 => ⟨S_, .f32⟩
  | 7 => ⟨S16384, .f32⟩
  | 8 => ⟨S16384, .f32⟩
  | 9 => ⟨S_, .f32⟩
  | 10 => ⟨S16384, .f32⟩
  | 11 => ⟨S16384, .f32⟩
  | 12 => ⟨S16384, .f32⟩
  | 13 => ⟨S16384x1, .f32⟩
  | 14 => ⟨S16384x1, .f32⟩
  | 15 => ⟨S16384x8, .f32⟩
  | 16 => ⟨S16384x10, .f32⟩
  | 17 => ⟨S1x10, .f32⟩
  | 18 => ⟨S16384x10, .f32⟩
  | 19 => ⟨S16384x10, .f32⟩
  | 20 => ⟨S16384x10, .f32⟩
  | 21 => ⟨S16384x4, .f32⟩
  | 22 => ⟨S1x4, .f32⟩
  | 23 => ⟨S16384x4, .f32⟩
  | 24 => ⟨S16384x4, .f32⟩
  | 25 => ⟨S_, .f32⟩
  | 26 => ⟨S16384, .f32⟩
  | 27 => ⟨S_, .f32⟩
  | 28 => ⟨S16384, .f32⟩
  | 29 => ⟨S16384, .f32⟩
  | 30 => ⟨S16384x1, .f32⟩
  | 31 => ⟨S16384x4, .f32⟩
  | 32 => ⟨S16384x4, .f32⟩
  | 33 => ⟨S16384x4, .f32⟩
  | 34 => ⟨S_, .f32⟩
  | 35 => ⟨S16384, .f32⟩
  | 36 => ⟨S16384x1, .f32⟩
  | 37 => ⟨S16384x4, .f32⟩
  | 38 => ⟨S16384x4, .f32⟩
  | _ => ⟨S16384x128, .f32⟩

abbrev hbmTy (i : Nat) : BufTy := match i / 128 with
  | 0 => hbmTy0_0 i
  | 1 => hbmTy0_1 i
  | _ => ⟨S16384x128, .f32⟩

abbrev bufTy : (tb : Table) → Fin (tcTables nBuf tb) → BufTy
  | .hbm, ⟨i, _⟩ => hbmTy i
  | _, _ => ⟨S16384x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_cst : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_cst_0 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_cst_1 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_call0_v0 : Ref sig .tc := ⟨.hbm, 36, rfl⟩
abbrev main_call0_cst : Ref sig .tc := ⟨.hbm, 37, rfl⟩
abbrev main_call0_c : Ref sig .tc := ⟨.hbm, 38, rfl⟩
abbrev main_call0_v1_0 : Ref sig .tc := ⟨.hbm, 39, rfl⟩
abbrev main_v15 : Ref sig .tc := ⟨.hbm, 40, rfl⟩
abbrev main_c : Ref sig .tc := ⟨.hbm, 41, rfl⟩
abbrev main_call1_v0 : Ref sig .tc := ⟨.hbm, 42, rfl⟩
abbrev main_call1_v1 : Ref sig .tc := ⟨.hbm, 43, rfl⟩
abbrev main_call1_v2 : Ref sig .tc := ⟨.hbm, 44, rfl⟩
abbrev main_call1_v3 : Ref sig .tc := ⟨.hbm, 45, rfl⟩
abbrev main_call1_v4 : Ref sig .tc := ⟨.hbm, 46, rfl⟩
abbrev main_call1_v5 : Ref sig .tc := ⟨.hbm, 47, rfl⟩
abbrev main_call1_v6 : Ref sig .tc := ⟨.hbm, 48, rfl⟩
abbrev main_call1_v7 : Ref sig .tc := ⟨.hbm, 49, rfl⟩
abbrev main_call1_v8 : Ref sig .tc := ⟨.hbm, 50, rfl⟩
abbrev main_call1_c : Ref sig .tc := ⟨.hbm, 51, rfl⟩
abbrev main_call1_v9 : Ref sig .tc := ⟨.hbm, 52, rfl⟩
abbrev main_call1_v10 : Ref sig .tc := ⟨.hbm, 53, rfl⟩
abbrev main_call1_v11 : Ref sig .tc := ⟨.hbm, 54, rfl⟩
abbrev main_call1_c_0 : Ref sig .tc := ⟨.hbm, 55, rfl⟩
abbrev main_call1_v12 : Ref sig .tc := ⟨.hbm, 56, rfl⟩
abbrev main_call1_v13 : Ref sig .tc := ⟨.hbm, 57, rfl⟩
abbrev main_v16 : Ref sig .tc := ⟨.hbm, 58, rfl⟩
abbrev main_c_2 : Ref sig .tc := ⟨.hbm, 59, rfl⟩
abbrev main_call2_v0 : Ref sig .tc := ⟨.hbm, 60, rfl⟩
abbrev main_call2_c : Ref sig .tc := ⟨.hbm, 61, rfl⟩
abbrev main_call2_v1 : Ref sig .tc := ⟨.hbm, 62, rfl⟩
abbrev main_call2_c_0 : Ref sig .tc := ⟨.hbm, 63, rfl⟩
abbrev main_call2_v2 : Ref sig .tc := ⟨.hbm, 64, rfl⟩
abbrev main_call2_v3 : Ref sig .tc := ⟨.hbm, 65, rfl⟩
abbrev main_call2_v4 : Ref sig .tc := ⟨.hbm, 66, rfl⟩
abbrev main_call2_c_1 : Ref sig .tc := ⟨.hbm, 67, rfl⟩
abbrev main_call2_v5 : Ref sig .tc := ⟨.hbm, 68, rfl⟩
abbrev main_call2_v6 : Ref sig .tc := ⟨.hbm, 69, rfl⟩
abbrev main_call2_c_2 : Ref sig .tc := ⟨.hbm, 70, rfl⟩
abbrev main_call2_v7 : Ref sig .tc := ⟨.hbm, 71, rfl⟩
abbrev main_call2_v8 : Ref sig .tc := ⟨.hbm, 72, rfl⟩
abbrev main_call2_c_3 : Ref sig .tc := ⟨.hbm, 73, rfl⟩
abbrev main_call2_v9 : Ref sig .tc := ⟨.hbm, 74, rfl⟩
abbrev main_call2_v10 : Ref sig .tc := ⟨.hbm, 75, rfl⟩
abbrev main_call2_v11 : Ref sig .tc := ⟨.hbm, 76, rfl⟩
abbrev main_call2_v12 : Ref sig .tc := ⟨.hbm, 77, rfl⟩
abbrev main_call2_v13 : Ref sig .tc := ⟨.hbm, 78, rfl⟩
abbrev main_call2_v14 : Ref sig .tc := ⟨.hbm, 79, rfl⟩
abbrev main_v17 : Ref sig .tc := ⟨.hbm, 80, rfl⟩
abbrev main_v18 : Ref sig .tc := ⟨.hbm, 81, rfl⟩
abbrev main_v19 : Ref sig .tc := ⟨.hbm, 82, rfl⟩
abbrev main_v20 : Ref sig .tc := ⟨.hbm, 83, rfl⟩
abbrev main_v21 : Ref sig .tc := ⟨.hbm, 84, rfl⟩
abbrev main_cst_3 : Ref sig .tc := ⟨.hbm, 85, rfl⟩
abbrev main_v22 : Ref sig .tc := ⟨.hbm, 86, rfl⟩
abbrev main_v23 : Ref sig .tc := ⟨.hbm, 87, rfl⟩
abbrev main_v24 : Ref sig .tc := ⟨.hbm, 88, rfl⟩
abbrev main_v25 : Ref sig .tc := ⟨.hbm, 89, rfl⟩
abbrev main_v26 : Ref sig .tc := ⟨.hbm, 90, rfl⟩
abbrev main_v27 : Ref sig .tc := ⟨.hbm, 91, rfl⟩
abbrev main_v28 : Ref sig .tc := ⟨.hbm, 92, rfl⟩
abbrev main_v29 : Ref sig .tc := ⟨.hbm, 93, rfl⟩
abbrev main_v30 : Ref sig .tc := ⟨.hbm, 94, rfl⟩
abbrev main_v31 : Ref sig .tc := ⟨.hbm, 95, rfl⟩
abbrev main_v32 : Ref sig .tc := ⟨.hbm, 96, rfl⟩
abbrev main_v33 : Ref sig .tc := ⟨.hbm, 97, rfl⟩
abbrev main_v34 : Ref sig .tc := ⟨.hbm, 98, rfl⟩
abbrev main_v35 : Ref sig .tc := ⟨.hbm, 99, rfl⟩
abbrev main_v36 : Ref sig .tc := ⟨.hbm, 100, rfl⟩
abbrev main_v37 : Ref sig .tc := ⟨.hbm, 101, rfl⟩
abbrev main_v38 : Ref sig .tc := ⟨.hbm, 102, rfl⟩
abbrev main_v39 : Ref sig .tc := ⟨.hbm, 103, rfl⟩
abbrev main_v40 : Ref sig .tc := ⟨.hbm, 104, rfl⟩
abbrev main_v41 : Ref sig .tc := ⟨.hbm, 105, rfl⟩
abbrev main_v42 : Ref sig .tc := ⟨.hbm, 106, rfl⟩
abbrev main_v43 : Ref sig .tc := ⟨.hbm, 107, rfl⟩
abbrev main_v44 : Ref sig .tc := ⟨.hbm, 108, rfl⟩
abbrev main_v45 : Ref sig .tc := ⟨.hbm, 109, rfl⟩
abbrev main_v46 : Ref sig .tc := ⟨.hbm, 110, rfl⟩
abbrev main_v47 : Ref sig .tc := ⟨.hbm, 111, rfl⟩
abbrev main_v48 : Ref sig .tc := ⟨.hbm, 112, rfl⟩
abbrev main_v49 : Ref sig .tc := ⟨.hbm, 113, rfl⟩
abbrev main_v50 : Ref sig .tc := ⟨.hbm, 114, rfl⟩
abbrev main_v51 : Ref sig .tc := ⟨.hbm, 115, rfl⟩
abbrev main_v52 : Ref sig .tc := ⟨.hbm, 116, rfl⟩
abbrev main_call3_v0 : Ref sig .tc := ⟨.hbm, 117, rfl⟩
abbrev main_call3_cst : Ref sig .tc := ⟨.hbm, 118, rfl⟩
abbrev main_call3_v1 : Ref sig .tc := ⟨.hbm, 119, rfl⟩
abbrev main_v53 : Ref sig .tc := ⟨.hbm, 120, rfl⟩
abbrev main_call4_v0 : Ref sig .tc := ⟨.hbm, 121, rfl⟩
abbrev main_call4_cst : Ref sig .tc := ⟨.hbm, 122, rfl⟩
abbrev main_call4_v1 : Ref sig .tc := ⟨.hbm, 123, rfl⟩
abbrev main_v54 : Ref sig .tc := ⟨.hbm, 124, rfl⟩
abbrev main_call5_v0 : Ref sig .tc := ⟨.hbm, 125, rfl⟩
abbrev main_call5_cst : Ref sig .tc := ⟨.hbm, 126, rfl⟩
abbrev main_call5_v1 : Ref sig .tc := ⟨.hbm, 127, rfl⟩
abbrev main_v55 : Ref sig .tc := ⟨.hbm, 128, rfl⟩
abbrev main_cst_4 : Ref sig .tc := ⟨.hbm, 129, rfl⟩
abbrev main_v56 : Ref sig .tc := ⟨.hbm, 130, rfl⟩
abbrev main_v57 : Ref sig .tc := ⟨.hbm, 131, rfl⟩
abbrev main_v58 : Ref sig .tc := ⟨.hbm, 132, rfl⟩
abbrev main_v59 : Ref sig .tc := ⟨.hbm, 133, rfl⟩
abbrev main_cst_5 : Ref sig .tc := ⟨.hbm, 134, rfl⟩
abbrev main_v60 : Ref sig .tc := ⟨.hbm, 135, rfl⟩
abbrev main_v61 : Ref sig .tc := ⟨.hbm, 136, rfl⟩
abbrev main_cst_6 : Ref sig .tc := ⟨.hbm, 137, rfl⟩
abbrev main_v62 : Ref sig .tc := ⟨.hbm, 138, rfl⟩
abbrev main_v63 : Ref sig .tc := ⟨.hbm, 139, rfl⟩
abbrev main_v64 : Ref sig .tc := ⟨.hbm, 140, rfl⟩
abbrev main_v65 : Ref sig .tc := ⟨.hbm, 141, rfl⟩
abbrev main_v66 : Ref sig .tc := ⟨.hbm, 142, rfl⟩
abbrev main_v67 : Ref sig .tc := ⟨.hbm, 143, rfl⟩
abbrev main_v68 : Ref sig .tc := ⟨.hbm, 144, rfl⟩
abbrev main_v69 : Ref sig .tc := ⟨.hbm, 145, rfl⟩
abbrev main_v70 : Ref sig .tc := ⟨.hbm, 146, rfl⟩
abbrev main_v71 : Ref sig .tc := ⟨.hbm, 147, rfl⟩
abbrev main_v72 : Ref sig .tc := ⟨.hbm, 148, rfl⟩
abbrev main_v73 : Ref sig .tc := ⟨.hbm, 149, rfl⟩
abbrev main_v74 : Ref sig .tc := ⟨.hbm, 150, rfl⟩
abbrev main_v75 : Ref sig .tc := ⟨.hbm, 151, rfl⟩
abbrev main_v76 : Ref sig .tc := ⟨.hbm, 152, rfl⟩
abbrev main_cst_7 : Ref sig .tc := ⟨.hbm, 153, rfl⟩
abbrev main_v77 : Ref sig .tc := ⟨.hbm, 154, rfl⟩
abbrev main_cst_8 : Ref sig .tc := ⟨.hbm, 155, rfl⟩
abbrev main_v78 : Ref sig .tc := ⟨.hbm, 156, rfl⟩
abbrev main_v79 : Ref sig .tc := ⟨.hbm, 157, rfl⟩
abbrev main_v80 : Ref sig .tc := ⟨.hbm, 158, rfl⟩
abbrev main_v81 : Ref sig .tc := ⟨.hbm, 159, rfl⟩
abbrev main_v82 : Ref sig .tc := ⟨.hbm, 160, rfl⟩
abbrev main_v83 : Ref sig .tc := ⟨.hbm, 161, rfl⟩
abbrev main_cst_9 : Ref sig .tc := ⟨.hbm, 162, rfl⟩
abbrev main_v84 : Ref sig .tc := ⟨.hbm, 163, rfl⟩
abbrev main_v85 : Ref sig .tc := ⟨.hbm, 164, rfl⟩
abbrev main_v86 : Ref sig .tc := ⟨.hbm, 165, rfl⟩
abbrev main_v87 : Ref sig .tc := ⟨.hbm, 166, rfl⟩

abbrev nD : Nat := 1
abbrev τ : Topo := Topo.v7x

variable {F : FTy → Type} [FloatOps F]
-- ==== Proof.KernelFrame.lean ====
module

public import proofs.«01_k».proof.Proof.KernelBody

/-! The kernel's launch: it ends, keeps its arguments and leaves every semaphore at zero. -/

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The proof's resources: the pipeline library's beside the transfers' counters. -/
local notation "𝕄" => MT nD τ sig Unit (Elt F) ℕ (Pipeline.UD sig nD τ) ℕ

variable (m : (ℓ : Loc nD τ sig) → Buf (Elt F) ℓ) (ρ : Dev nD → PrngReg)

/-- The one unscoped buffer the body writes: the result. -/
def R0 : Finset (Ref sig .tc) := {main_v9}
/-- The operands the body's transfers read. -/
def H0 : Finset (Ref sig .tc) := {main_arg0, main_v0, main_arg2, main_v1, main_arg4, main_v2, main_arg6, main_v3, main_arg8, main_v4, main_arg10, main_v5, main_arg12, main_v6, main_arg14, main_v7, main_arg16, main_v8}
/-- The operands are buffers of the launch. -/
theorem H0_sub : H0 ⊆ Pipeline.restRefs sig cfg0.spec := by decide
/-- The result is a buffer of the launch and no operand. -/
theorem R0_sub : R0 ⊆ Pipeline.restRefs sig cfg0.spec \ H0 := by decide
/-- The body's transfer semaphores: four for the samples, four for the result, seventeen for the weights. -/
abbrev osem0 : Fin 25 → SemLoc sig := fun j => SemLoc.dma ⟨j.1, by have := j.2; exact this⟩
/-- They are semaphores of the body alone. -/
theorem ownSemFacts0 : Pipeline.OwnSemFacts cfg0.spec osem0 := by decide

/-- The body's semaphores at zero, one by one. -/
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 0) 0 ∗ semVal ((c : Thread nD τ), SemLoc.dma 1) 0 ∗ semVal ((c : Thread nD τ), SemLoc.dma 2) 0 ∗ semVal ((c : Thread nD τ), SemLoc.dma 3) 0 ∗ semVal ((c : Thread nD τ), SemLoc.dma 4) 0 ∗ semVal ((c : Thread nD τ), SemLoc.dma 5) 0 ∗ semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0) := by
  rw [Pipeline.ownSems0_eq_of_list c osem0 [0, 1, 2, 3, 4, 5, 6, 7, 8, 9, 10, 11, 12, 13, 14, 15, 16, 17, 18, 19, 20, 21, 22, 23, 24] (by decide) (by decide)]; rfl
/-- The operands at their contents, one by one. -/
theorem hbmPts0_eq (c : Dev nD) :
    (bigSep H0 (fun b => ((c : Thread nD τ).loc b) ↦{fullShare} V m c b) : sProp 𝕄)
      = iprop(pt c main_arg0 (V m c main_arg0) ∗ pt c main_v0 (V m c main_v0) ∗ pt c main_arg2 (V m c main_arg2) ∗ pt c main_v1 (V m c main_v1) ∗ pt c main_arg4 (V m c main_arg4) ∗ pt c main_v2 (V m c main_v2) ∗ pt c main_arg6 (V m c main_arg6) ∗ pt c main_v3 (V m c main_v3) ∗ pt c main_arg8 (V m c main_arg8) ∗ pt c main_v4 (V m c main_v4) ∗ pt c main_arg10 (V m c main_arg10) ∗ pt c main_v5 (V m c main_v5) ∗ pt c main_arg12 (V m c main_arg12) ∗ pt c main_v6 (V m c main_v6) ∗ pt c main_arg14 (V m c main_arg14) ∗ pt c main_v7 (V m c main_v7) ∗ pt c main_arg16 (V m c main_arg16) ∗ pt c main_v8 (V m c main_v8)) := by
  rw [BI.bigSep_eq_bigSepL_of_eq [main_arg0, main_v0, main_arg2, main_v1, main_arg4, main_v2, main_arg6, main_v3, main_arg8, main_v4, main_arg10, main_v5, main_arg12, main_v6, main_arg14, main_v7, main_arg16, main_v8] (by decide) (by decide)]; rfl

/-- The result at some contents. -/
theorem ownedPts0_eq (c : Dev nD) : (Pipeline.owned R0 c : sProp 𝕄) = iprop(∃ f, pt c main_v9 f) := by
  unfold Pipeline.owned; rw [BI.bigSep_eq_bigSepL_of_eq [main_v9] (by decide) (by decide)]; rfl

set_option maxHeartbeats 2000000 in
/-- What the body holds at entry and exit, buffer by buffer. -/
theorem Phi0_eq (c : Dev nD) :
    (Pipeline.ΦDR osem0 cfg0.spec H0 R0 (V m) c : sProp 𝕄)
      = iprop(iprop((∃ f, pt c cc0_scratch0 f) ∗ (∃ f, pt c cc0_scratch1 f) ∗ (∃ f, pt c cc0_scratch2 f) ∗ (∃ f, pt c cc0_scratch3 f) ∗ (∃ f, pt c cc0_scratch4 f) ∗ (∃ f, pt c cc0_scratch5 f) ∗ (∃ f, pt c cc0_scratch6 f) ∗ (∃ f, pt c cc0_scratch7 f) ∗ (∃ f, pt c cc0_scratch8 f) ∗ (∃ f, pt c cc0_scratch9 f) ∗ (∃ f, pt c cc0_scratch10 f) ∗ (∃ f, pt c cc0_scratch11 f) ∗ (∃ f, pt c cc0_scratch12 f) ∗ (∃ f, pt c cc0_scratch13 f) ∗ (∃ f, pt c cc0_scratch14 f) ∗ (∃ f, pt c cc0_scratch15 f) ∗ (∃ f, pt c cc0_scratch16 f) ∗ (∃ f, pt c cc0_scratch17 f) ∗ (∃ f, pt c cc0_scratch18 f)) ∗ (∃ r, prngReg c r) ∗ iprop(semVal ((c : Thread nD τ), SemLoc.dma 0) 0 ∗ semVal ((c : Thread nD τ), SemLoc.dma 1) 0 ∗ semVal ((c : Thread nD τ), SemLoc.dma 2) 0 ∗ semVal ((c : Thread nD τ), SemLoc.dma 3) 0 ∗ semVal ((c : Thread nD τ), SemLoc.dma 4) 0 ∗ semVal ((c : Thread nD τ), SemLoc.dma 5) 0 ∗ semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0) ∗ iprop(pt c main_arg0 (V m c main_arg0) ∗ pt c main_v0 (V m c main_v0) ∗ pt c main_arg2 (V m c main_arg2) ∗ pt c main_v1 (V m c main_v1) ∗ pt c main_arg4 (V m c main_arg4) ∗ pt c main_v2 (V m c main_v2) ∗ pt c main_arg6 (V m c main_arg6) ∗ pt c main_v3 (V m c main_v3) ∗ pt c main_arg8 (V m c main_arg8) ∗ pt c main_v4 (V m c main_v4) ∗ pt c main_arg10 (V m c main_arg10) ∗ pt c main_v5 (V m c main_v5) ∗ pt c main_arg12 (V m c main_arg12) ∗ pt c main_v6 (V m c main_v6) ∗ pt c main_arg14 (V m c main_arg14) ∗ pt c main_v7 (V m c main_v7) ∗ pt c main_arg16 (V m c main_arg16) ∗ pt c main_v8 (V m c main_v8)) ∗ iprop(∃ f, pt c main_v9 f)) := by
  rw [Pipeline.ΦDR_eq, scopedRest0_eq, ownSems00_eq, hbmPts0_eq, ownedPts0_eq]

/-- The proof data: the launch's contents, full shares, nothing owed, and what the body holds between. -/
def dats (_ : Fin 1) (c : Dev nD) : Dat τ (Elt F) Unit ℕ (Pipeline.UD sig nD τ) ℕ cfg0 c where
  A w := V m c (Pipeline.arrRef cfg0.spec w)
  after w t := w.elim0
  Φ _ := Pipeline.ΦDR osem0 cfg0.spec H0 R0 (V m) c
  q _ := fullShare
  owed _ := 0

/-- Before the body. -/
theorem phi_pre (c : Dev nD) (t : Fin cfg0.N) : (dats (F := F) m 0 c).Φ t.castSucc = Pipeline.ΦDR osem0 cfg0.spec H0 R0 (V m) c := rfl
/-- After the body. -/
theorem phi_post (c : Dev nD) (t : Fin cfg0.N) : (dats (F := F) m 0 c).Φ t.succ = Pipeline.ΦDR osem0 cfg0.spec H0 R0 (V m) c := rfl

set_option maxHeartbeats 1000000 in
/-- The body's triple at the launch: from what the body holds at entry, it runs to what it holds at exit. -/
theorem sound_body (c : Dev nD) (t : Fin cfg0.N) :
    iprop((dats m 0 c).Φ t.castSucc ∗ (dats m 0 c).owesAt () t.castSucc)
      ⊢ wp frame (wpE (defs₀ (F := F)) Variants.none c none) Set.univ (bodyAt0 t)
          (fun _ => iprop((dats m 0 c).Φ t.succ ∗ (dats m 0 c).owesAt () t.succ)) := by
  rw [phi_pre, phi_post, Phi0_eq]
  unfold Dat.owesAt Pipeline.owesWithin bodyAt0
  rw [show (dats m 0 c).owed t.castSucc = 0 from rfl, show (dats m 0 c).owed t.succ = 0 from rfl]
  iintro ⟨⟨⟨⟨%fs0, HS0⟩, ⟨%fs1, HS1⟩, ⟨%fs2, HS2⟩, ⟨%fs3, HS3⟩, ⟨%fs4, HS4⟩, ⟨%fs5, HS5⟩, ⟨%fs6, HS6⟩, ⟨%fs7, HS7⟩, ⟨%fs8, HS8⟩, ⟨%fs9, HS9⟩, ⟨%fs10, HS10⟩, ⟨%fs11, HS11⟩, ⟨%fs12, HS12⟩, ⟨%fs13, HS13⟩, ⟨%fs14, HS14⟩, ⟨%fs15, HS15⟩, ⟨%fs16, HS16⟩, ⟨%fs17, HS17⟩, ⟨%fs18, HS18⟩⟩, Hg, ⟨Hq0, Hq1, Hq2, Hq3, Hq4, Hq5, Hq6, Hq7, Hq8, Hq9, Hq10, Hq11, Hq12, Hq13, Hq14, Hq15, Hq16, Hq17, Hq18, Hq19, Hq20, Hq21, Hq22, Hq23, Hq24⟩, ⟨Hh0, Hh1, Hh2, Hh3, Hh4, Hh5, Hh6, Hh7, Hh8, Hh9, Hh10, Hh11, Hh12, Hh13, Hh14, Hh15, Hh16, Hh17⟩, ⟨%f9, H9⟩⟩, ⟨%W, -, HW⟩⟩
  iapply ((kernelRun0 c (V m c main_arg0) (V m c main_v0) (V m c main_arg2) (V m c main_v1) (V m c main_arg4) (V m c main_v2) (V m c main_arg6) (V m c main_v3) (V m c main_arg8) (V m c main_v4) (V m c main_arg10) (V m c main_v5) (V m c main_arg12) (V m c main_v6) (V m c main_arg14) (V m c main_v7) (V m c main_arg16) (V m c main_v8) f9 fs0 fs1 fs2 fs3 fs4 fs5 fs6 fs7 fs8 fs9 fs10 fs11 fs12 fs13 fs14 fs15 fs16 fs17 fs18).2 W _)
  isplitl [Hh0]; · iexact Hh0
  isplitl [Hh1]; · iexact Hh1
  isplitl [Hh2]; · iexact Hh2
  isplitl [Hh3]; · iexact Hh3
  isplitl [Hh4]; · iexact Hh4
  isplitl [Hh5]; · iexact Hh5
  isplitl [Hh6]; · iexact Hh6
  isplitl [Hh7]; · iexact Hh7
  isplitl [Hh8]; · iexact Hh8
  isplitl [Hh9]; · iexact Hh9
  isplitl [Hh10]; · iexact Hh10
  isplitl [Hh11]; · iexact Hh11
  isplitl [Hh12]; · iexact Hh12
  isplitl [Hh13]; · iexact Hh13
  isplitl [Hh14]; · iexact Hh14
  isplitl [Hh15]; · iexact Hh15
  isplitl [Hh16]; · iexact Hh16
  isplitl [Hh17]; · iexact Hh17
  isplitl [H9]; · iexact H9
  isplitl [HS0]; · iexact HS0
  isplitl [HS1]; · iexact HS1
  isplitl [HS2]; · iexact HS2
  isplitl [HS3]; · iexact HS3
  isplitl [HS4]; · iexact HS4
  isplitl [HS5]; · iexact HS5
  isplitl [HS6]; · iexact HS6
  isplitl [HS7]; · iexact HS7
  isplitl [HS8]; · iexact HS8
  isplitl [HS9]; · iexact HS9
  isplitl [HS10]; · iexact HS10
  isplitl [HS11]; · iexact HS11
  isplitl [HS12]; · iexact HS12
  isplitl [HS13]; · iexact HS13
  isplitl [HS14]; · iexact HS14
  isplitl [HS15]; · iexact HS15
  isplitl [HS16]; · iexact HS16
  isplitl [HS17]; · iexact HS17
  isplitl [HS18]; · iexact HS18
  isplitl [Hq0]; · iexact Hq0
  isplitl [Hq1]; · iexact Hq1
  isplitl [Hq2]; · iexact Hq2
  isplitl [Hq3]; · iexact Hq3
  isplitl [Hq4]; · iexact Hq4
  isplitl [Hq5]; · iexact Hq5
  isplitl [Hq6]; · iexact Hq6
  isplitl [Hq7]; · iexact Hq7
  isplitl [Hq8]; · iexact Hq8
  isplitl [Hq9]; · iexact Hq9
  isplitl [Hq10]; · iexact Hq10
  isplitl [Hq11]; · iexact Hq11
  isplitl [Hq12]; · iexact Hq12
  isplitl [Hq13]; · iexact Hq13
  isplitl [Hq14]; · iexact Hq14
  isplitl [Hq15]; · iexact Hq15
  isplitl [Hq16]; · iexact Hq16
  isplitl [Hq17]; · iexact Hq17
  isplitl [Hq18]; · iexact Hq18
  isplitl [Hq19]; · iexact Hq19
  isplitl [Hq20]; · iexact Hq20
  isplitl [Hq21]; · iexact Hq21
  isplitl [Hq22]; · iexact Hq22
  isplitl [Hq23]; · iexact Hq23
  isplitl [Hq24]; · iexact Hq24
  isplitl [HW]; · iexact HW
  iintro ⟨Hh0, Hh1, Hh2, Hh3, Hh4, Hh5, Hh6, Hh7, Hh8, Hh9, Hh10, Hh11, Hh12, Hh13, Hh14, Hh15, Hh16, Hh17, H9, HS0, HS1, HS2, HS3, HS4, HS5, HS6, HS7, HS8, HS9, HS10, HS11, HS12, HS13, HS14, HS15, HS16, HS17, HS18, Hq0, Hq1, Hq2, Hq3, Hq4, Hq5, Hq6, Hq7, Hq8, Hq9, Hq10, Hq11, Hq12, Hq13, Hq14, Hq15, Hq16, Hq17, Hq18, Hq19, Hq20, Hq21, Hq22, Hq23, Hq24, ⟨%W', HW'⟩⟩
  isplitl [HS0 HS1 HS2 HS3 HS4 HS5 HS6 HS7 HS8 HS9 HS10 HS11 HS12 HS13 HS14 HS15 HS16 HS17 HS18 Hg Hq0 Hq1 Hq2 Hq3 Hq4 Hq5 Hq6 Hq7 Hq8 Hq9 Hq10 Hq11 Hq12 Hq13 Hq14 Hq15 Hq16 Hq17 Hq18 Hq19 Hq20 Hq21 Hq22 Hq23 Hq24 Hh0 Hh1 Hh2 Hh3 Hh4 Hh5 Hh6 Hh7 Hh8 Hh9 Hh10 Hh11 Hh12 Hh13 Hh14 Hh15 Hh16 Hh17 H9]
  · isplitl [HS0 HS1 HS2 HS3 HS4 HS5 HS6 HS7 HS8 HS9 HS10 HS11 HS12 HS13 HS14 HS15 HS16 HS17 HS18]
    · isplitl [HS0]; · iexact HS0
      isplitl [HS1]; · iexact HS1
      isplitl [HS2]; · iexact HS2
      isplitl [HS3]; · iexact HS3
      isplitl [HS4]; · iexact HS4
      isplitl [HS5]; · iexact HS5
      isplitl [HS6]; · iexact HS6
      isplitl [HS7]; · iexact HS7
      isplitl [HS8]; · iexact HS8
      isplitl [HS9]; · iexact HS9
      isplitl [HS10]; · iexact HS10
      isplitl [HS11]; · iexact HS11
      isplitl [HS12]; · iexact HS12
      isplitl [HS13]; · iexact HS13
      isplitl [HS14]; · iexact HS14
      isplitl [HS15]; · iexact HS15
      isplitl [HS16]; · iexact HS16
      isplitl [HS17]; · iexact HS17
      iexact HS18
    isplitl [Hg]; · iexact Hg
    isplitl [Hq0 Hq1 Hq2 Hq3 Hq4 Hq5 Hq6 Hq7 Hq8 Hq9 Hq10 Hq11 Hq12 Hq13 Hq14 Hq15 Hq16 Hq17 Hq18 Hq19 Hq20 Hq21 Hq22 Hq23 Hq24]
    · isplitl [Hq0]; · iexact Hq0
      isplitl [Hq1]; · iexact Hq1
      isplitl [Hq2]; · iexact Hq2
      isplitl [Hq3]; · iexact Hq3
      isplitl [Hq4]; · iexact Hq4
      isplitl [Hq5]; · iexact Hq5
      isplitl [Hq6]; · iexact Hq6
      isplitl [Hq7]; · iexact Hq7
      isplitl [Hq8]; · iexact Hq8
      isplitl [Hq9]; · iexact Hq9
      isplitl [Hq10]; · iexact Hq10
      isplitl [Hq11]; · iexact Hq11
      isplitl [Hq12]; · iexact Hq12
      isplitl [Hq13]; · iexact Hq13
      isplitl [Hq14]; · iexact Hq14
      isplitl [Hq15]; · iexact Hq15
      isplitl [Hq16]; · iexact Hq16
      isplitl [Hq17]; · iexact Hq17
      isplitl [Hq18]; · iexact Hq18
      isplitl [Hq19]; · iexact Hq19
      isplitl [Hq20]; · iexact Hq20
      isplitl [Hq21]; · iexact Hq21
      isplitl [Hq22]; · iexact Hq22
      isplitl [Hq23]; · iexact Hq23
      iexact Hq24
    isplitl [Hh0 Hh1 Hh2 Hh3 Hh4 Hh5 Hh6 Hh7 Hh8 Hh9 Hh10 Hh11 Hh12 Hh13 Hh14 Hh15 Hh16 Hh17]
    · isplitl [Hh0]; · iexact Hh0
      isplitl [Hh1]; · iexact Hh1
      isplitl [Hh2]; · iexact Hh2
      isplitl [Hh3]; · iexact Hh3
      isplitl [Hh4]; · iexact Hh4
      isplitl [Hh5]; · iexact Hh5
      isplitl [Hh6]; · iexact Hh6
      isplitl [Hh7]; · iexact Hh7
      isplitl [Hh8]; · iexact Hh8
      isplitl [Hh9]; · iexact Hh9
      isplitl [Hh10]; · iexact Hh10
      isplitl [Hh11]; · iexact Hh11
      isplitl [Hh12]; · iexact Hh12
      isplitl [Hh13]; · iexact Hh13
      isplitl [Hh14]; · iexact Hh14
      isplitl [Hh15]; · iexact Hh15
      isplitl [Hh16]; · iexact Hh16
      iexact Hh17
    iexists _; iexact H9
  iexists W'; isplitr; · ipureintro; exact fun _ _ => Or.inl trivial
  iexact HW'

/-- The region's body is the kernel on its buffers. -/
theorem defs₀_row (t : Fin cfg0.N) :
    defs₀ (F := F) .tc cfg0.body (cfg0.bodyArgs t (cfg0.slots t)) = bodyAt0 t := by
  unfold defs₀; rw [Defs.onTc_tc]

/-- The launch's body obligation: there are no staged windows, so it is the triple above. -/
theorem body_obligation (c : Dev nD) : BodyObligation (dats (F := F) m 0 c) (defs₀ (F := F)) Variants.none () Set.univ := fun t => by
  rw [defs₀_row]
  rw [show (Finset.univ : Finset (Fin cfg0.W)) = ∅ from rfl, bigSep_empty, bigSep_empty]
  refine triple_restated (sound_body m c t) rfl ?_ fun _ => ?_
  · iintro ⟨HΦ, HW, -⟩
    isplitl [HΦ]; · iexact HΦ
    iexact HW
  · iintro ⟨HΦ, HW⟩
    isplitl [HΦ]; · iexact HΦ
    isplitl [HW]; · iexact HW
    iempintro

set_option backward.isDefEq.respectTransparency.types false in
/-- The whole program's run: every buffer but the result as the region found it, every semaphore at zero. -/
theorem run_main : θ_run defs (onTc (τ := τ) (main (F := F))) (s₀ m ρ) (fun r => Pipeline.FramePostR cfgs (dats m) 0 R0 (V m) r ∧ r.2.sem = fun _ => 0) :=
  Pipeline.θ_run_frame_dmaR (Q' := _) cfgs (dats m) (0 : Fin 1) launch0 osem0 defs₀ Variants.none ownSemFacts0 H0 R0 H0_sub R0_sub m ρ main
    (hbody := fun c => (body_obligation m c).loose) (hshare := fun c => (dats m 0 c).share_full fun _ => rfl)
    (howed := fun _ _ => rfl) (V := V m) (hmain := Pipeline.hmain_prefix cfgs 0 defs₀ Variants.none m main hostOps0 hostOps0_sub hostOps0_fresh main_chain)
    (hA := fun _ w => w.elim0)
    (hin := fun _ => .rfl) (hout := fun _ => .rfl)

/-- The frame: the arguments end as launched, every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17))
      ∧ r.2.sem = fun _ => 0) :=
  (θ_run defs _ _).mono (fun _ h => by
    have hr := h.1
    exact ⟨fun c => ⟨((hr c).2 main_arg0 (Finset.mem_sdiff.mpr ⟨Pipeline.mem_restRefs_of main_arg0 (by decide) (by decide), by decide⟩)).trans (V_main_arg0 m c),
      ((hr c).2 main_arg1 (Finset.mem_sdiff.mpr ⟨Pipeline.mem_restRefs_of main_arg1 (by decide) (by decide), by decide⟩)).trans (V_main_arg1 m c),
      ((hr c).2 main_arg2 (Finset.mem_sdiff.mpr ⟨Pipeline.mem_restRefs_of main_arg2 (by decide) (by decide), by decide⟩)).trans (V_main_arg2 m c),
      ((hr c).2 main_arg3 (Finset.mem_sdiff.mpr ⟨Pipeline.mem_restRefs_of main_arg3 (by decide) (by decide), by decide⟩)).trans (V_main_arg3 m c),
      ((hr c).2 main_arg4 (Finset.mem_sdiff.mpr ⟨Pipeline.mem_restRefs_of main_arg4 (by decide) (by decide), by decide⟩)).trans (V_main_arg4 m c),
      ((hr c).2 main_arg5 (Finset.mem_sdiff.mpr ⟨Pipeline.mem_restRefs_of main_arg5 (by decide) (by decide), by decide⟩)).trans (V_main_arg5 m c),
      ((hr c).2 main_arg6 (Finset.mem_sdiff.mpr ⟨Pipeline.mem_restRefs_of main_arg6 (by decide) (by decide), by decide⟩)).trans (V_main_arg6 m c),
      ((hr c).2 main_arg7 (Finset.mem_sdiff.mpr ⟨Pipeline.mem_restRefs_of main_arg7 (by decide) (by decide), by decide⟩)).trans (V_main_arg7 m c),
      ((hr c).2 main_arg8 (Finset.mem_sdiff.mpr ⟨Pipeline.mem_restRefs_of main_arg8 (by decide) (by decide), by decide⟩)).trans (V_main_arg8 m c),
      ((hr c).2 main_arg9 (Finset.mem_sdiff.mpr ⟨Pipeline.mem_restRefs_of main_arg9 (by decide) (by decide), by decide⟩)).trans (V_main_arg9 m c),
      ((hr c).2 main_arg10 (Finset.mem_sdiff.mpr ⟨Pipeline.mem_restRefs_of main_arg10 (by decide) (by decide), by decide⟩)).trans (V_main_arg10 m c),
      ((hr c).2 main_arg11 (Finset.mem_sdiff.mpr ⟨Pipeline.mem_restRefs_of main_arg11 (by decide) (by decide), by decide⟩)).trans (V_main_arg11 m c),
      ((hr c).2 main_arg12 (Finset.mem_sdiff.mpr ⟨Pipeline.mem_restRefs_of main_arg12 (by decide) (by decide), by decide⟩)).trans (V_main_arg12 m c),
      ((hr c).2 main_arg13 (Finset.mem_sdiff.mpr ⟨Pipeline.mem_restRefs_of main_arg13 (by decide) (by decide), by decide⟩)).trans (V_main_arg13 m c),
      ((hr c).2 main_arg14 (Finset.mem_sdiff.mpr ⟨Pipeline.mem_restRefs_of main_arg14 (by decide) (by decide), by decide⟩)).trans (V_main_arg14 m c),
      ((hr c).2 main_arg15 (Finset.mem_sdiff.mpr ⟨Pipeline.mem_restRefs_of main_arg15 (by decide) (by decide), by decide⟩)).trans (V_main_arg15 m c),
      ((hr c).2 main_arg16 (Finset.mem_sdiff.mpr ⟨Pipeline.mem_restRefs_of main_arg16 (by decide) (by decide), by decide⟩)).trans (V_main_arg16 m c),
      ((hr c).2 main_arg17 (Finset.mem_sdiff.mpr ⟨Pipeline.mem_restRefs_of main_arg17 (by decide) (by decide), by decide⟩)).trans (V_main_arg17 m c)⟩, h.2⟩) (run_main m ρ)

end Cert.Kernel.Hand

end
-- ==== Proof.KernelIdealBody.lean ====
module

public import proofs.«01_k».proof.Proof.Gen.KernelIdeal.Frame
public import proofs.«01_k».proof.Proof.Gen.KernelIdeal.Skeleton
public import Idealize.ShloMosaic.Lib.Pipeline.FrameValue

/-! The idealized kernel's body, run from its operands: what it leaves in the buffers. -/

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

/-- The proof's resources: the pipeline library's beside the transfers' counters. -/
local notation "𝕄" => MT nD τ sig Unit (Elt F) ℕ (Pipeline.UD sig nD τ) ℕ

/-- The contents of buffer `b` on core `c`. -/
abbrev BufOf (c : Dev nD) (b : Ref sig .tc) : Type := Buf (Elt F) ((Memref.whole b).view.loc (c : Thread nD τ))
/-- Buffer `b` of core `c`, held whole at contents `f`. -/
abbrev pt (c : Dev nD) (b : Ref sig .tc) (f : BufOf (F := F) c b) : sProp 𝕄 :=
  (Memref.whole b).view.loc (c : Thread nD τ) ↦{fullShare} f

set_option maxRecDepth 16384 in
set_option maxHeartbeats 4000000 in
set_option sl_exec.dmaWindow true in
set_option sl_exec.squeezeSlice true in
/-- The body's run: every copy started and waited for, the four blocks computed, and the contents it ends with. -/
noncomputable def kernelRun0 (c : Dev nD)
    (fh0 : BufOf (F := F) c main_arg0)
    (fh1 : BufOf (F := F) c main_v0)
    (fh2 : BufOf (F := F) c main_arg2)
    (fh3 : BufOf (F := F) c main_v1)
    (fh4 : BufOf (F := F) c main_arg4)
    (fh5 : BufOf (F := F) c main_v2)
    (fh6 : BufOf (F := F) c main_arg6)
    (fh7 : BufOf (F := F) c main_v3)
    (fh8 : BufOf (F := F) c main_arg8)
    (fh9 : BufOf (F := F) c main_v4)
    (fh10 : BufOf (F := F) c main_arg10)
    (fh11 : BufOf (F := F) c main_v5)
    (fh12 : BufOf (F := F) c main_arg12)
    (fh13 : BufOf (F := F) c main_v6)
    (fh14 : BufOf (F := F) c main_arg14)
    (fh15 : BufOf (F := F) c main_v7)
    (fh16 : BufOf (F := F) c main_arg16)
    (fh17 : BufOf (F := F) c main_v8)
    (f9 : BufOf (F := F) c main_v9)
    (fs0 : BufOf (F := F) c cc0_scratch0)
    (fs1 : BufOf (F := F) c cc0_scratch1)
    (fs2 : BufOf (F := F) c cc0_scratch2)
    (fs3 : BufOf (F := F) c cc0_scratch3)
    (fs4 : BufOf (F := F) c cc0_scratch4)
    (fs5 : BufOf (F := F) c cc0_scratch5)
    (fs6 : BufOf (F := F) c cc0_scratch6)
    (fs7 : BufOf (F := F) c cc0_scratch7)
    (fs8 : BufOf (F := F) c cc0_scratch8)
    (fs9 : BufOf (F := F) c cc0_scratch9)
    (fs10 : BufOf (F := F) c cc0_scratch10)
    (fs11 : BufOf (F := F) c cc0_scratch11)
    (fs12 : BufOf (F := F) c cc0_scratch12)
    (fs13 : BufOf (F := F) c cc0_scratch13)
    (fs14 : BufOf (F := F) c cc0_scratch14)
    (fs15 : BufOf (F := F) c cc0_scratch15)
    (fs16 : BufOf (F := F) c cc0_scratch16)
    (fs17 : BufOf (F := F) c cc0_scratch17)
    (fs18 : BufOf (F := F) c cc0_scratch18) :
    { G : BufOf (F := F) c main_v9 //
      ∀ (W : Waits sig Unit) (K : PUnit → sProp 𝕄),
        iprop(pt c main_arg0 fh0 ∗ pt c main_v0 fh1 ∗ pt c main_arg2 fh2 ∗ pt c main_v1 fh3 ∗ pt c main_arg4 fh4 ∗ pt c main_v2 fh5 ∗ pt c main_arg6 fh6 ∗ pt c main_v3 fh7 ∗ pt c main_arg8 fh8 ∗ pt c main_v4 fh9 ∗ pt c main_arg10 fh10 ∗ pt c main_v5 fh11 ∗ pt c main_arg12 fh12 ∗ pt c main_v6 fh13 ∗ pt c main_arg14 fh14 ∗ pt c main_v7 fh15 ∗ pt c main_arg16 fh16 ∗ pt c main_v8 fh17 ∗ pt c main_v9 f9 ∗ pt c cc0_scratch0 fs0 ∗ pt c cc0_scratch1 fs1 ∗ pt c cc0_scratch2 fs2 ∗ pt c cc0_scratch3 fs3 ∗ pt c cc0_scratch4 fs4 ∗ pt c cc0_scratch5 fs5 ∗ pt c cc0_scratch6 fs6 ∗ pt c cc0_scratch7 fs7 ∗ pt c cc0_scratch8 fs8 ∗ pt c cc0_scratch9 fs9 ∗ pt c cc0_scratch10 fs10 ∗ pt c cc0_scratch11 fs11 ∗ pt c cc0_scratch12 fs12 ∗ pt c cc0_scratch13 fs13 ∗ pt c cc0_scratch14 fs14 ∗ pt c cc0_scratch15 fs15 ∗ pt c cc0_scratch16 fs16 ∗ pt c cc0_scratch17 fs17 ∗ pt c cc0_scratch18 fs18 ∗ semVal ((c : Thread nD τ), SemLoc.dma 0) 0 ∗ semVal ((c : Thread nD τ), SemLoc.dma 1) 0 ∗ semVal ((c : Thread nD τ), SemLoc.dma 2) 0 ∗ semVal ((c : Thread nD τ), SemLoc.dma 3) 0 ∗ semVal ((c : Thread nD τ), SemLoc.dma 4) 0 ∗ semVal ((c : Thread nD τ), SemLoc.dma 5) 0 ∗ semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0
            ∗ owes (c : Thread nD τ) 0 W
            ∗ (iprop(pt c main_arg0 fh0 ∗ pt c main_v0 fh1 ∗ pt c main_arg2 fh2 ∗ pt c main_v1 fh3 ∗ pt c main_arg4 fh4 ∗ pt c main_v2 fh5 ∗ pt c main_arg6 fh6 ∗ pt c main_v3 fh7 ∗ pt c main_arg8 fh8 ∗ pt c main_v4 fh9 ∗ pt c main_arg10 fh10 ∗ pt c main_v5 fh11 ∗ pt c main_arg12 fh12 ∗ pt c main_v6 fh13 ∗ pt c main_arg14 fh14 ∗ pt c main_v7 fh15 ∗ pt c main_arg16 fh16 ∗ pt c main_v8 fh17 ∗ pt c main_v9 G ∗ (∃ f, pt c cc0_scratch0 f) ∗ (∃ f, pt c cc0_scratch1 f) ∗ (∃ f, pt c cc0_scratch2 f) ∗ (∃ f, pt c cc0_scratch3 f) ∗ (∃ f, pt c cc0_scratch4 f) ∗ (∃ f, pt c cc0_scratch5 f) ∗ (∃ f, pt c cc0_scratch6 f) ∗ (∃ f, pt c cc0_scratch7 f) ∗ (∃ f, pt c cc0_scratch8 f) ∗ (∃ f, pt c cc0_scratch9 f) ∗ (∃ f, pt c cc0_scratch10 f) ∗ (∃ f, pt c cc0_scratch11 f) ∗ (∃ f, pt c cc0_scratch12 f) ∗ (∃ f, pt c cc0_scratch13 f) ∗ (∃ f, pt c cc0_scratch14 f) ∗ (∃ f, pt c cc0_scratch15 f) ∗ (∃ f, pt c cc0_scratch16 f) ∗ (∃ f, pt c cc0_scratch17 f) ∗ (∃ f, pt c cc0_scratch18 f) ∗ semVal ((c : Thread nD τ), SemLoc.dma 0) 0 ∗ semVal ((c : Thread nD τ), SemLoc.dma 1) 0 ∗ semVal ((c : Thread nD τ), SemLoc.dma 2) 0 ∗ semVal ((c : Thread nD τ), SemLoc.dma 3) 0 ∗ semVal ((c : Thread nD τ), SemLoc.dma 4) 0 ∗ semVal ((c : Thread nD τ), SemLoc.dma 5) 0 ∗ semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0
                ∗ (∃ W', owes (c : Thread nD τ) 0 W')) -∗ K ⟨⟩))
          ⊢ wp frame (wpE (defs₀ (F := F)) Variants.none c none) Set.univ
              (cc0__pipeline (Memref.whole main_arg0) (Memref.isWhole_whole _) (Memref.whole main_v0) (Memref.isWhole_whole _) (Memref.whole main_arg2) (Memref.isWhole_whole _) (Memref.whole main_v1) (Memref.isWhole_whole _) (Memref.whole main_arg4) (Memref.isWhole_whole _) (Memref.whole main_v2) (Memref.isWhole_whole _) (Memref.whole main_arg6) (Memref.isWhole_whole _) (Memref.whole main_v3) (Memref.isWhole_whole _) (Memref.whole main_arg8) (Memref.isWhole_whole _) (Memref.whole main_v4) (Memref.isWhole_whole _) (Memref.whole main_arg10) (Memref.isWhole_whole _) (Memref.whole main_v5) (Memref.isWhole_whole _) (Memref.whole main_arg12) (Memref.isWhole_whole _) (Memref.whole main_v6) (Memref.isWhole_whole _) (Memref.whole main_arg14) (Memref.isWhole_whole _) (Memref.whole main_v7) (Memref.isWhole_whole _) (Memref.whole main_arg16) (Memref.isWhole_whole _) (Memref.whole main_v8) (Memref.isWhole_whole _) (Memref.whole main_v9) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) (Memref.whole cc0_scratch15) (Memref.isWhole_whole _) (Memref.whole cc0_scratch16) (Memref.isWhole_whole _) (Memref.whole cc0_scratch17) (Memref.isWhole_whole _) (Memref.whole cc0_scratch18) (Memref.isWhole_whole _) cc0_scratch19 cc0_scratch20 cc0_scratch21) K } := by
  refine ⟨?_, fun W K => ?run⟩
  case run =>
    simp only [cc0__pipeline_eq_skeleton]; unfold cc0__pipeline_skel
    iintro ⟨Hh0, Hh1, Hh2, Hh3, Hh4, Hh5, Hh6, Hh7, Hh8, Hh9, Hh10, Hh11, Hh12, Hh13, Hh14, Hh15, Hh16, Hh17, H9, HS0, HS1, HS2, HS3, HS4, HS5, HS6, HS7, HS8, HS9, HS10, HS11, HS12, HS13, HS14, HS15, HS16, HS17, HS18, Hq0, Hq1, Hq2, Hq3, Hq4, Hq5, Hq6, Hq7, Hq8, Hq9, Hq10, Hq11, Hq12, Hq13, Hq14, Hq15, Hq16, Hq17, Hq18, Hq19, Hq20, Hq21, Hq22, Hq23, Hq24, HW, Hk⟩
    sl_exec_parts
    sl_step
    iapply Hk
    isplitl [Hh0]; · iexact Hh0
    isplitl [Hh1]; · iexact Hh1
    isplitl [Hh2]; · iexact Hh2
    isplitl [Hh3]; · iexact Hh3
    isplitl [Hh4]; · iexact Hh4
    isplitl [Hh5]; · iexact Hh5
    isplitl [Hh6]; · iexact Hh6
    isplitl [Hh7]; · iexact Hh7
    isplitl [Hh8]; · iexact Hh8
    isplitl [Hh9]; · iexact Hh9
    isplitl [Hh10]; · iexact Hh10
    isplitl [Hh11]; · iexact Hh11
    isplitl [Hh12]; · iexact Hh12
    isplitl [Hh13]; · iexact Hh13
    isplitl [Hh14]; · iexact Hh14
    isplitl [Hh15]; · iexact Hh15
    isplitl [Hh16]; · iexact Hh16
    isplitl [Hh17]; · iexact Hh17
    isplitl [H9]; · iexact H9
    isplitl [HS0]; · iexists _; iexact HS0
    isplitl [HS1]; · iexists _; iexact HS1
    isplitl [HS2]; · iexists _; iexact HS2
    isplitl [HS3]; · iexists _; iexact HS3
    isplitl [HS4]; · iexists _; iexact HS4
    isplitl [HS5]; · iexists _; iexact HS5
    isplitl [HS6]; · iexists _; iexact HS6
    isplitl [HS7]; · iexists _; iexact HS7
    isplitl [HS8]; · iexists _; iexact HS8
    isplitl [HS9]; · iexists _; iexact HS9
    isplitl [HS10]; · iexists _; iexact HS10
    isplitl [HS11]; · iexists _; iexact HS11
    isplitl [HS12]; · iexists _; iexact HS12
    isplitl [HS13]; · iexists _; iexact HS13
    isplitl [HS14]; · iexists _; iexact HS14
    isplitl [HS15]; · iexists _; iexact HS15
    isplitl [HS16]; · iexists _; iexact HS16
    isplitl [HS17]; · iexists _; iexact HS17
    isplitl [HS18]; · iexists _; iexact HS18
    isplitl [Hq0]; · iexact Hq0
    isplitl [Hq1]; · iexact Hq1
    isplitl [Hq2]; · iexact Hq2
    isplitl [Hq3]; · iexact Hq3
    isplitl [Hq4]; · iexact Hq4
    isplitl [Hq5]; · iexact Hq5
    isplitl [Hq6]; · iexact Hq6
    isplitl [Hq7]; · iexact Hq7
    isplitl [Hq8]; · iexact Hq8
    isplitl [Hq9]; · iexact Hq9
    isplitl [Hq10]; · iexact Hq10
    isplitl [Hq11]; · iexact Hq11
    isplitl [Hq12]; · iexact Hq12
    isplitl [Hq13]; · iexact Hq13
    isplitl [Hq14]; · iexact Hq14
    isplitl [Hq15]; · iexact Hq15
    isplitl [Hq16]; · iexact Hq16
    isplitl [Hq17]; · iexact Hq17
    isplitl [Hq18]; · iexact Hq18
    isplitl [Hq19]; · iexact Hq19
    isplitl [Hq20]; · iexact Hq20
    isplitl [Hq21]; · iexact Hq21
    isplitl [Hq22]; · iexact Hq22
    isplitl [Hq23]; · iexact Hq23
    isplitl [Hq24]; · iexact Hq24
    iexists _; iexact HW

end Cert.KernelIdeal.Hand

end
-- ==== Proof.KernelIdealValue.lean ====
module

public import proofs.«01_k».proof.Proof.KernelIdealBody
public import Idealize.ShloMosaic.Lib.Tactic.Stretches
public import Idealize.ShloMosaic.Lib.Pipeline.Value
public import Idealize.ShloMosaic.Lib.WritesUnit
public import Idealize.ShloMosaic.Lib.VecWindow

/-! What one invocation of the idealized kernel leaves in the result: a function of its eighteen operands, chunk by
chunk of 4096 rows. The stages below are the kernel's own, named by what they compute; `kernelRun0_result` says that
the run's result is made of them. -/

@[expose] public section

noncomputable section

namespace Cert.KernelIdeal.Hand

open Cert.KernelIdeal Cert.KernelIdeal.Gen
open Idealize.ShloMosaic Idealize.ShloMosaic.TcCoe Idealize.ShloMosaic.Tactic

variable {F : FTy → Type} [FloatOps F]

/-- An f32 array of shape `S`. -/
abbrev Arr (F : FTy → Type) (S : Shape) : Type := FVec F S .f32

/-- The score of every map node (row) at every sample (column): the node's squared norm, less twice its product with
the sample. -/
def score (w : Arr F S100x128) (x : Arr F S4096x128) : Arr F S100x4096 :=
  addf (broadcastTo S100x4096 (shapeCast S100x1 (multiReduction .add [1] S100 (mulf w w) 0x00000000#32 reduces_S100x128_S100 (.inl rfl) rfl)
      shapeCasts_S100_S100x1) broadcasts_S100x1_S100x4096)
    (matmul dot_S100x128_S4096x128_S100x4096_1_1_0_0_n_n none
      (mulf (broadcast S100x128 (Scalar.ofBits .f32 0xC0000000#32)) w) x (constant S100x4096 .f32 0x00000000#32))

/-- For each sample, the first node whose score is the least. -/
def nearest (s : Arr F S100x4096) : IVec S1x4096 32 :=
  shapeCast S1x4096 (multiReductionI .minsi [0] S4096
    (select (cmpf .ole s (broadcastTo S100x4096 (shapeCast S1x4096
        (multiReduction .minimumf [0] S4096 s 0x7F800000#32 reduces_S100x4096_S4096 (.inl rfl) rfl) shapeCasts_S4096_S1x4096)
        broadcasts_S1x4096_S100x4096))
      (broadcastTo S100x4096 (shapeCast S100x1 (iota .tc S100x1 32 [0] iota_S100x1_d0_w32) shapeCasts_S100x1_S100x1)
        broadcasts_S100x1_S100x4096)
      (broadcast S100x4096 100#32))
    2147483647#32 reduces_S100x4096_S4096 rfl) shapeCasts_S4096_S1x4096

/-- A word everywhere in a row. -/
abbrev rowOf (w : BitVec 32) : IVec S1x4096 32 := broadcast S1x4096 w

/-- The node's row on the map: its number divided by ten, rounded down. -/
def mapRow (k : IVec S1x4096 32) : IVec S1x4096 32 :=
  select (andi (cmpi .ne (subi (extui 32 (cmpi .sgt k (rowOf 0#32)) natLt_1_32) (extui 32 (cmpi .slt k (rowOf 0#32)) natLt_1_32))
        (rowOf (Scalar.subi (Scalar.extui (Scalar.cmpi .sgt 10#32 0#32)) (Scalar.extui (Scalar.cmpi .slt 10#32 0#32)))))
      (cmpi .ne (remsi k (rowOf 10#32)) (rowOf 0#32)))
    (subi (divsi k (rowOf 10#32)) (rowOf 1#32)) (divsi k (rowOf 10#32))

/-- The divisor ten, unless it were zero. -/
def ten : BitVec 32 := Scalar.select (Scalar.cmpi .eq 10#32 0#32) 1#32 10#32

/-- The node's column on the map: the remainder of its number by ten. -/
def mapCol (k : IVec S1x4096 32) : IVec S1x4096 32 :=
  select (andi (xori (cmpi .slt (remsi k (rowOf ten)) (rowOf 0#32))
        (broadcastTo S1x4096 (broadcast S1x4096 (Scalar.cmpi .slt ten 0#32)) broadcasts_S1x4096_S1x4096))
      (cmpi .ne (remsi k (rowOf ten)) (rowOf 0#32)))
    (addi (remsi k (rowOf ten)) (rowOf ten)) (remsi k (rowOf ten))

/-- A coordinate on the map as the gate sees it: in tenths. -/
def tenths [Named F] (k : IVec S1x4096 32) : Arr F S1x4096 :=
  mulf (sitofp .f32 k) (broadcast S1x4096 (Named.named κ "tenth" 0x3DCCCCCD#32))

/-- A chunk in the short format. -/
abbrev short (x : Arr F S4096x128) : FVec F S4096x128 .bf16 := truncf .bf16 x bitsLt_bf16_f32

/-- The first encoder layer stacked on the last decoder layer, times the chunk. -/
def stacked (w1 : Arr F S128x64) (w6 : Arr F S64x128) (x : Arr F S4096x128) : Arr F S128x4096 :=
  matmul dot_S128x128_S4096x128_S128x4096_1_1_0_0_n_n none
    (truncf .bf16 (concatenate S128x128 0 [⟨S64x128, transpose S64x128 [1, 0] w1 transposes_S128x64_p1_0_S64x128⟩, ⟨S64x128, w6⟩]
      concatenates_S64x128_S64x128_S128x128_d0) bitsLt_bf16_f32)
    (short x) (constant S128x4096 .f32 0x00000000#32)

/-- The code of each sample: three layers of the encoder. -/
def latent (p : Arr F S128x4096) (b1 : Arr F S1x64) (w2 : Arr F S64x32) (b2 : Arr F S1x32) (w3 : Arr F S32x4) (b3 : Arr F S1x4) :
    Arr F S4x4096 :=
  addf (matmul dot_S32x4_S32x4096_S4x4096_0_0_1_1_n_n none (truncf .bf16 w3 bitsLt_bf16_f32)
      (truncf .bf16 (tanh (addf (matmul dot_S64x32_S64x4096_S32x4096_0_0_1_1_n_n none (truncf .bf16 w2 bitsLt_bf16_f32)
          (truncf .bf16 (tanh (addf (extractStridedSlice S64x4096 ![0, 0] p slices_S128x4096_o0_0_S64x4096)
            (broadcastTo S64x4096 (transpose S64x1 [1, 0] b1 transposes_S1x64_p1_0_S64x1) broadcasts_S64x1_S64x4096))) bitsLt_bf16_f32)
          (constant S32x4096 .f32 0x00000000#32))
        (broadcastTo S32x4096 (transpose S32x1 [1, 0] b2 transposes_S1x32_p1_0_S32x1) broadcasts_S32x1_S32x4096))) bitsLt_bf16_f32)
      (constant S4x4096 .f32 0x00000000#32))
    (broadcastTo S4x4096 (transpose S4x1 [1, 0] b3 transposes_S1x4_p1_0_S4x1) broadcasts_S4x1_S4x4096)

/-- The decoder's last hidden layer. -/
def hidden (z : Arr F S4x4096) (w4 : Arr F S4x32) (b4 : Arr F S1x32) (w5 : Arr F S32x64) (b5 : Arr F S1x64) : Arr F S64x4096 :=
  tanh (addf (matmul dot_S32x64_S32x4096_S64x4096_0_0_1_1_n_n none (truncf .bf16 w5 bitsLt_bf16_f32)
      (truncf .bf16 (tanh (addf (matmul dot_S4x32_S4x4096_S32x4096_0_0_1_1_n_n none (truncf .bf16 w4 bitsLt_bf16_f32)
          (truncf .bf16 z bitsLt_bf16_f32) (constant S32x4096 .f32 0x00000000#32))
        (broadcastTo S32x4096 (transpose S32x1 [1, 0] b4 transposes_S1x32_p1_0_S32x1) broadcasts_S32x1_S32x4096))) bitsLt_bf16_f32)
      (constant S64x4096 .f32 0x00000000#32))
    (broadcastTo S64x4096 (transpose S64x1 [1, 0] b5 transposes_S1x64_p1_0_S64x1) broadcasts_S64x1_S64x4096))

/-- Each sample's product with its reconstruction, formed without it. -/
def crossSum (h : Arr F S64x4096) (p : Arr F S128x4096) (b6 : Arr F S1x128) (x : Arr F S4096x128) : Arr F S1x4096 :=
  addf (shapeCast S1x4096 (multiReduction .add [0] S4096
      (mulf h (extractStridedSlice S64x4096 ![64, 0] p slices_S128x4096_o64_0_S64x4096)) 0x00000000#32 reduces_S64x4096_S4096
      (.inl rfl) rfl) shapeCasts_S4096_S1x4096)
    (matmul dot_S1x128_S4096x128_S1x4096_1_1_0_0_n_n none b6 x (constant S1x4096 .f32 0x00000000#32))

/-- Each sample's reconstruction. -/
def rebuilt (h : Arr F S64x4096) (w6 : Arr F S64x128) (b6 : Arr F S1x128) : Arr F S128x4096 :=
  addf (matmul dot_S64x128_S64x4096_S128x4096_0_0_1_1_n_n none (truncf .bf16 w6 bitsLt_bf16_f32) (truncf .bf16 h bitsLt_bf16_f32)
      (constant S128x4096 .f32 0x00000000#32))
    (broadcastTo S128x4096 (transpose S128x1 [1, 0] b6 transposes_S1x128_p1_0_S128x1) broadcasts_S128x1_S128x4096)

/-- The reconstructions' squared norms. -/
def rebuiltSq (y : Arr F S128x4096) : Arr F S1x4096 :=
  shapeCast S1x4096 (multiReduction .add [0] S4096 (mulf y y) 0x00000000#32 reduces_S128x4096_S4096 (.inl rfl) rfl)
    shapeCasts_S4096_S1x4096

/-- The samples' squared norms. -/
def sampleSq (x : Arr F S4096x128) : Arr F S1x4096 :=
  matmul dot_S1x128_S4096x128_S1x4096_1_1_0_0_n_n none (broadcast S1x128 (Scalar.ofBits .bf16 0x3F80#16))
    (mulf (short x) (short x)) (constant S1x4096 .f32 0x00000000#32)

/-- The guard against a zero divisor. -/
abbrev eps : Arr F S1x4096 := broadcast S1x4096 (Scalar.ofBits .f32 0x2B8CBCCC#32)

/-- The reconstruction's distance from the sample, relative to the sample's norm. -/
def distRel (xx xy yy : Arr F S1x4096) : Arr F S1x4096 :=
  divf (sqrt (maximumf (addf (subf xx (mulf (broadcast S1x4096 (Scalar.ofBits .f32 0x40000000#32)) xy)) yy)
      (broadcast S1x4096 (Scalar.ofBits .f32 0x00000000#32))))
    (addf (sqrt xx) eps)

/-- The cosine between the sample and its reconstruction. -/
def cosine (xx xy yy : Arr F S1x4096) : Arr F S1x4096 :=
  divf xy (addf (mulf (sqrt xx) (sqrt yy)) eps)

/-- The gate's eight inputs, one a row. -/
def gateIn (z : Arr F S4x4096) (e s i j : Arr F S1x4096) : Arr F S8x4096 :=
  concatenate S8x4096 0 [⟨S4x4096, z⟩, ⟨S1x4096, e⟩, ⟨S1x4096, s⟩, ⟨S1x4096, i⟩, ⟨S1x4096, j⟩]
    concatenates_S4x4096_S1x4096_S1x4096_S1x4096_S1x4096_S8x4096_d0

/-- The gate's logits. -/
def logits (y : Arr F S8x4096) (g1 : Arr F S8x10) (c1 : Arr F S1x10) (g2 : Arr F S10x4) (c2 : Arr F S1x4) :
    Arr F S4x4096 :=
  addf (matmul dot_S10x4_S10x4096_S4x4096_0_0_1_1_n_n none g2
      (tanh (addf (matmul dot_S8x10_S8x4096_S10x4096_0_0_1_1_n_n none g1
          y (constant S10x4096 .f32 0x00000000#32))
        (broadcastTo S10x4096 (transpose S10x1 [1, 0] c1 transposes_S1x10_p1_0_S10x1) broadcasts_S10x1_S10x4096)))
      (constant S4x4096 .f32 0x00000000#32))
    (broadcastTo S4x4096 (transpose S4x1 [1, 0] c2 transposes_S1x4_p1_0_S4x1) broadcasts_S4x1_S4x4096)

/-- Exponentials of a column, shifted by its largest entry. -/
def raised (l : Arr F S4x4096) : Arr F S4x4096 :=
  exp (subf l (broadcastTo S4x4096 (shapeCast S1x4096 (multiReduction .maximumf [0] S4096 l 0xFF800000#32 reduces_S4x4096_S4096
    (.inl rfl) rfl) shapeCasts_S4096_S1x4096) broadcasts_S1x4096_S4x4096))

/-- Each column divided by its sum, then laid out one sample a row. -/
def shares (e : Arr F S4x4096) : Arr F S4096x4 :=
  transpose S4096x4 [1, 0] (divf e (broadcastTo S4x4096 (shapeCast S1x4096 (multiReduction .add [0] S4096 e 0x00000000#32
    reduces_S4x4096_S4096 (.inl rfl) rfl) shapeCasts_S4096_S1x4096) broadcasts_S1x4096_S4x4096)) transposes_S4x4096_p1_0_S4096x4

/-- One chunk's result, from its samples and the weights. -/
def blockOut [Named F] (x : Arr F S4096x128) (w : Arr F S100x128) (w1 : Arr F S128x64) (b1 : Arr F S1x64) (w2 : Arr F S64x32)
    (b2 : Arr F S1x32) (w3 : Arr F S32x4) (b3 : Arr F S1x4) (w4 : Arr F S4x32) (b4 : Arr F S1x32) (w5 : Arr F S32x64)
    (b5 : Arr F S1x64) (w6 : Arr F S64x128) (b6 : Arr F S1x128) (g1 : Arr F S8x10) (c1 : Arr F S1x10) (g2 : Arr F S10x4)
    (c2 : Arr F S1x4) : Arr F S4096x4 :=
  let k := nearest (score w x)
  let p := stacked w1 w6 x
  let z := latent p b1 w2 b2 w3 b3
  let h := hidden z w4 b4 w5 b5
  let xx := sampleSq x
  let xy := crossSum h p b6 x
  let yy := rebuiltSq (rebuilt h w6 b6)
  shares (raised (logits (gateIn z (distRel xx xy yy) (cosine xx xy yy) (tenths (mapRow k)) (tenths (mapCol k))) g1 c1 g2 c2))

/-! ## The run's stored values are the stages above, of the loaded values -/

section Run

variable [Named F]

/-- What chunk 0 stores. -/
theorem stored_0 (c : Dev nD) (fh0 : BufOf (F := F) c main_arg0)
    (fh1 : BufOf (F := F) c main_v0)
    (fh2 : BufOf (F := F) c main_arg2)
    (fh3 : BufOf (F := F) c main_v1)
    (fh4 : BufOf (F := F) c main_arg4)
    (fh5 : BufOf (F := F) c main_v2)
    (fh6 : BufOf (F := F) c main_arg6)
    (fh7 : BufOf (F := F) c main_v3)
    (fh8 : BufOf (F := F) c main_arg8)
    (fh9 : BufOf (F := F) c main_v4)
    (fh10 : BufOf (F := F) c main_arg10)
    (fh11 : BufOf (F := F) c main_v5)
    (fh12 : BufOf (F := F) c main_arg12)
    (fh13 : BufOf (F := F) c main_v6)
    (fh14 : BufOf (F := F) c main_arg14)
    (fh15 : BufOf (F := F) c main_v7)
    (fh16 : BufOf (F := F) c main_arg16)
    (fh17 : BufOf (F := F) c main_v8)
    (fs0 : BufOf (F := F) c cc0_scratch0)
    (fs1 : BufOf (F := F) c cc0_scratch1)
    (fs2 : BufOf (F := F) c cc0_scratch2)
    (fs3 : BufOf (F := F) c cc0_scratch3)
    (fs4 : BufOf (F := F) c cc0_scratch4)
    (fs5 : BufOf (F := F) c cc0_scratch5)
    (fs6 : BufOf (F := F) c cc0_scratch6)
    (fs7 : BufOf (F := F) c cc0_scratch7)
    (fs8 : BufOf (F := F) c cc0_scratch8)
    (fs9 : BufOf (F := F) c cc0_scratch9)
    (fs10 : BufOf (F := F) c cc0_scratch10)
    (fs11 : BufOf (F := F) c cc0_scratch11)
    (fs12 : BufOf (F := F) c cc0_scratch12)
    (fs13 : BufOf (F := F) c cc0_scratch13)
    (fs14 : BufOf (F := F) c cc0_scratch14)
    (fs15 : BufOf (F := F) c cc0_scratch15)
    (fs16 : BufOf (F := F) c cc0_scratch16)
    (fs17 : BufOf (F := F) c cc0_scratch17)
    (fs18 : BufOf (F := F) c cc0_scratch18) :
    kernelRun0.sl.v271 c fh0 fh1 fh2 fh3 fh4 fh5 fh6 fh7 fh8 fh9 fh10 fh11 fh12 fh13 fh14 fh15 fh16 fh17 fs0 fs2 fs3 fs4 fs5 fs6 fs7 fs8 fs9 fs10 fs11 fs12 fs13 fs14 fs15 fs16 fs17 fs18
      = shapeCast S1x4096x4 (blockOut (shapeCast S4096x128 (kernelRun0.sl.v129 c fh0 fs0) shapeCasts_S1x4096x128_S4096x128) (kernelRun0.sl.v88 c fh1 fs2) (kernelRun0.sl.v95 c fh2 fs3) (kernelRun0.sl.v102 c fh3 fs4) (kernelRun0.sl.v117 c fh4 fs5) (kernelRun0.sl.v104 c fh5 fs6) (kernelRun0.sl.v118 c fh6 fs7) (kernelRun0.sl.v106 c fh7 fs8) (kernelRun0.sl.v119 c fh8 fs9) (kernelRun0.sl.v108 c fh9 fs10) (kernelRun0.sl.v120 c fh10 fs11) (kernelRun0.sl.v110 c fh11 fs12) (kernelRun0.sl.v97 c fh12 fs13) (kernelRun0.sl.v101 c fh13 fs14) (kernelRun0.sl.v121 c fh14 fs15) (kernelRun0.sl.v113 c fh15 fs16) (kernelRun0.sl.v122 c fh16 fs17) (kernelRun0.sl.v115 c fh17 fs18))
          shapeCasts_S4096x4_S1x4096x4 := by
  sl_kernel_rfl

/-- What chunk 1 stores. -/
theorem stored_1 (c : Dev nD) (fh0 : BufOf (F := F) c main_arg0)
    (fh1 : BufOf (F := F) c main_v0)
    (fh2 : BufOf (F := F) c main_arg2)
    (fh3 : BufOf (F := F) c main_v1)
    (fh4 : BufOf (F := F) c main_arg4)
    (fh5 : BufOf (F := F) c main_v2)
    (fh6 : BufOf (F := F) c main_arg6)
    (fh7 : BufOf (F := F) c main_v3)
    (fh8 : BufOf (F := F) c main_arg8)
    (fh9 : BufOf (F := F) c main_v4)
    (fh10 : BufOf (F := F) c main_arg10)
    (fh11 : BufOf (F := F) c main_v5)
    (fh12 : BufOf (F := F) c main_arg12)
    (fh13 : BufOf (F := F) c main_v6)
    (fh14 : BufOf (F := F) c main_arg14)
    (fh15 : BufOf (F := F) c main_v7)
    (fh16 : BufOf (F := F) c main_arg16)
    (fh17 : BufOf (F := F) c main_v8)
    (fs0 : BufOf (F := F) c cc0_scratch0)
    (fs1 : BufOf (F := F) c cc0_scratch1)
    (fs2 : BufOf (F := F) c cc0_scratch2)
    (fs3 : BufOf (F := F) c cc0_scratch3)
    (fs4 : BufOf (F := F) c cc0_scratch4)
    (fs5 : BufOf (F := F) c cc0_scratch5)
    (fs6 : BufOf (F := F) c cc0_scratch6)
    (fs7 : BufOf (F := F) c cc0_scratch7)
    (fs8 : BufOf (F := F) c cc0_scratch8)
    (fs9 : BufOf (F := F) c cc0_scratch9)
    (fs10 : BufOf (F := F) c cc0_scratch10)
    (fs11 : BufOf (F := F) c cc0_scratch11)
    (fs12 : BufOf (F := F) c cc0_scratch12)
    (fs13 : BufOf (F := F) c cc0_scratch13)
    (fs14 : BufOf (F := F) c cc0_scratch14)
    (fs15 : BufOf (F := F) c cc0_scratch15)
    (fs16 : BufOf (F := F) c cc0_scratch16)
    (fs17 : BufOf (F := F) c cc0_scratch17)
    (fs18 : BufOf (F := F) c cc0_scratch18) :
    kernelRun0.sl.v424 c fh0 fh1 fh2 fh3 fh4 fh5 fh6 fh7 fh8 fh9 fh10 fh11 fh12 fh13 fh14 fh15 fh16 fh17 fs0 fs2 fs3 fs4 fs5 fs6 fs7 fs8 fs9 fs10 fs11 fs12 fs13 fs14 fs15 fs16 fs17 fs18
      = shapeCast S1x4096x4 (blockOut (shapeCast S4096x128 (kernelRun0.sl.v282 c fh0 fs0) shapeCasts_S1x4096x128_S4096x128) (kernelRun0.sl.v88 c fh1 fs2) (kernelRun0.sl.v95 c fh2 fs3) (kernelRun0.sl.v102 c fh3 fs4) (kernelRun0.sl.v117 c fh4 fs5) (kernelRun0.sl.v104 c fh5 fs6) (kernelRun0.sl.v118 c fh6 fs7) (kernelRun0.sl.v106 c fh7 fs8) (kernelRun0.sl.v119 c fh8 fs9) (kernelRun0.sl.v108 c fh9 fs10) (kernelRun0.sl.v120 c fh10 fs11) (kernelRun0.sl.v110 c fh11 fs12) (kernelRun0.sl.v97 c fh12 fs13) (kernelRun0.sl.v101 c fh13 fs14) (kernelRun0.sl.v121 c fh14 fs15) (kernelRun0.sl.v113 c fh15 fs16) (kernelRun0.sl.v122 c fh16 fs17) (kernelRun0.sl.v115 c fh17 fs18))
          shapeCasts_S4096x4_S1x4096x4 := by
  sl_kernel_rfl

/-- What chunk 2 stores. -/
theorem stored_2 (c : Dev nD) (fh0 : BufOf (F := F) c main_arg0)
    (fh1 : BufOf (F := F) c main_v0)
    (fh2 : BufOf (F := F) c main_arg2)
    (fh3 : BufOf (F := F) c main_v1)
    (fh4 : BufOf (F := F) c main_arg4)
    (fh5 : BufOf (F := F) c main_v2)
    (fh6 : BufOf (F := F) c main_arg6)
    (fh7 : BufOf (F := F) c main_v3)
    (fh8 : BufOf (F := F) c main_arg8)
    (fh9 : BufOf (F := F) c main_v4)
    (fh10 : BufOf (F := F) c main_arg10)
    (fh11 : BufOf (F := F) c main_v5)
    (fh12 : BufOf (F := F) c main_arg12)
    (fh13 : BufOf (F := F) c main_v6)
    (fh14 : BufOf (F := F) c main_arg14)
    (fh15 : BufOf (F := F) c main_v7)
    (fh16 : BufOf (F := F) c main_arg16)
    (fh17 : BufOf (F := F) c main_v8)
    (fs0 : BufOf (F := F) c cc0_scratch0)
    (fs1 : BufOf (F := F) c cc0_scratch1)
    (fs2 : BufOf (F := F) c cc0_scratch2)
    (fs3 : BufOf (F := F) c cc0_scratch3)
    (fs4 : BufOf (F := F) c cc0_scratch4)
    (fs5 : BufOf (F := F) c cc0_scratch5)
    (fs6 : BufOf (F := F) c cc0_scratch6)
    (fs7 : BufOf (F := F) c cc0_scratch7)
    (fs8 : BufOf (F := F) c cc0_scratch8)
    (fs9 : BufOf (F := F) c cc0_scratch9)
    (fs10 : BufOf (F := F) c cc0_scratch10)
    (fs11 : BufOf (F := F) c cc0_scratch11)
    (fs12 : BufOf (F := F) c cc0_scratch12)
    (fs13 : BufOf (F := F) c cc0_scratch13)
    (fs14 : BufOf (F := F) c cc0_scratch14)
    (fs15 : BufOf (F := F) c cc0_scratch15)
    (fs16 : BufOf (F := F) c cc0_scratch16)
    (fs17 : BufOf (F := F) c cc0_scratch17)
    (fs18 : BufOf (F := F) c cc0_scratch18) :
    kernelRun0.sl.v577 c fh0 fh1 fh2 fh3 fh4 fh5 fh6 fh7 fh8 fh9 fh10 fh11 fh12 fh13 fh14 fh15 fh16 fh17 fs0 fs2 fs3 fs4 fs5 fs6 fs7 fs8 fs9 fs10 fs11 fs12 fs13 fs14 fs15 fs16 fs17 fs18
      = shapeCast S1x4096x4 (blockOut (shapeCast S4096x128 (kernelRun0.sl.v435 c fh0 fs0) shapeCasts_S1x4096x128_S4096x128) (kernelRun0.sl.v88 c fh1 fs2) (kernelRun0.sl.v95 c fh2 fs3) (kernelRun0.sl.v102 c fh3 fs4) (kernelRun0.sl.v117 c fh4 fs5) (kernelRun0.sl.v104 c fh5 fs6) (kernelRun0.sl.v118 c fh6 fs7) (kernelRun0.sl.v106 c fh7 fs8) (kernelRun0.sl.v119 c fh8 fs9) (kernelRun0.sl.v108 c fh9 fs10) (kernelRun0.sl.v120 c fh10 fs11) (kernelRun0.sl.v110 c fh11 fs12) (kernelRun0.sl.v97 c fh12 fs13) (kernelRun0.sl.v101 c fh13 fs14) (kernelRun0.sl.v121 c fh14 fs15) (kernelRun0.sl.v113 c fh15 fs16) (kernelRun0.sl.v122 c fh16 fs17) (kernelRun0.sl.v115 c fh17 fs18))
          shapeCasts_S4096x4_S1x4096x4 := by
  sl_kernel_rfl

/-- What chunk 3 stores. -/
theorem stored_3 (c : Dev nD) (fh0 : BufOf (F := F) c main_arg0)
    (fh1 : BufOf (F := F) c main_v0)
    (fh2 : BufOf (F := F) c main_arg2)
    (fh3 : BufOf (F := F) c main_v1)
    (fh4 : BufOf (F := F) c main_arg4)
    (fh5 : BufOf (F := F) c main_v2)
    (fh6 : BufOf (F := F) c main_arg6)
    (fh7 : BufOf (F := F) c main_v3)
    (fh8 : BufOf (F := F) c main_arg8)
    (fh9 : BufOf (F := F) c main_v4)
    (fh10 : BufOf (F := F) c main_arg10)
    (fh11 : BufOf (F := F) c main_v5)
    (fh12 : BufOf (F := F) c main_arg12)
    (fh13 : BufOf (F := F) c main_v6)
    (fh14 : BufOf (F := F) c main_arg14)
    (fh15 : BufOf (F := F) c main_v7)
    (fh16 : BufOf (F := F) c main_arg16)
    (fh17 : BufOf (F := F) c main_v8)
    (fs0 : BufOf (F := F) c cc0_scratch0)
    (fs1 : BufOf (F := F) c cc0_scratch1)
    (fs2 : BufOf (F := F) c cc0_scratch2)
    (fs3 : BufOf (F := F) c cc0_scratch3)
    (fs4 : BufOf (F := F) c cc0_scratch4)
    (fs5 : BufOf (F := F) c cc0_scratch5)
    (fs6 : BufOf (F := F) c cc0_scratch6)
    (fs7 : BufOf (F := F) c cc0_scratch7)
    (fs8 : BufOf (F := F) c cc0_scratch8)
    (fs9 : BufOf (F := F) c cc0_scratch9)
    (fs10 : BufOf (F := F) c cc0_scratch10)
    (fs11 : BufOf (F := F) c cc0_scratch11)
    (fs12 : BufOf (F := F) c cc0_scratch12)
    (fs13 : BufOf (F := F) c cc0_scratch13)
    (fs14 : BufOf (F := F) c cc0_scratch14)
    (fs15 : BufOf (F := F) c cc0_scratch15)
    (fs16 : BufOf (F := F) c cc0_scratch16)
    (fs17 : BufOf (F := F) c cc0_scratch17)
    (fs18 : BufOf (F := F) c cc0_scratch18) :
    kernelRun0.sl.v730 c fh0 fh1 fh2 fh3 fh4 fh5 fh6 fh7 fh8 fh9 fh10 fh11 fh12 fh13 fh14 fh15 fh16 fh17 fs0 fs2 fs3 fs4 fs5 fs6 fs7 fs8 fs9 fs10 fs11 fs12 fs13 fs14 fs15 fs16 fs17 fs18
      = shapeCast S1x4096x4 (blockOut (shapeCast S4096x128 (kernelRun0.sl.v588 c fh0 fs0) shapeCasts_S1x4096x128_S4096x128) (kernelRun0.sl.v88 c fh1 fs2) (kernelRun0.sl.v95 c fh2 fs3) (kernelRun0.sl.v102 c fh3 fs4) (kernelRun0.sl.v117 c fh4 fs5) (kernelRun0.sl.v104 c fh5 fs6) (kernelRun0.sl.v118 c fh6 fs7) (kernelRun0.sl.v106 c fh7 fs8) (kernelRun0.sl.v119 c fh8 fs9) (kernelRun0.sl.v108 c fh9 fs10) (kernelRun0.sl.v120 c fh10 fs11) (kernelRun0.sl.v110 c fh11 fs12) (kernelRun0.sl.v97 c fh12 fs13) (kernelRun0.sl.v101 c fh13 fs14) (kernelRun0.sl.v121 c fh14 fs15) (kernelRun0.sl.v113 c fh15 fs16) (kernelRun0.sl.v122 c fh16 fs17) (kernelRun0.sl.v115 c fh17 fs18))
          shapeCasts_S4096x4_S1x4096x4 := by
  sl_kernel_rfl

end Run

end Cert.KernelIdeal.Hand
-- ==== Proof.KernelIdealResult.lean ====
module

public import proofs.«01_k».proof.Proof.KernelIdealValue
public import Idealize.ShloMosaic.Lib.Pointwise

/-! The chunks' loads and stores resolved: every weight the kernel loads is the operand itself, every chunk it loads is
its 4096 rows of the samples, and the four stores tile the result. -/

@[expose] public section

noncomputable section

namespace Cert.KernelIdeal.Hand

open Cert.KernelIdeal Cert.KernelIdeal.Gen
open Idealize.ShloMosaic Idealize.ShloMosaic.TcCoe Idealize.ShloMosaic.Tactic

variable {F : FTy → Type} [FloatOps F]

section Slabs

variable {σ : RefSig} {κ : Kind} {sp : Space} {n : ℕ} {Val : EltTy → Type}

/-- Four slabs of 4096 rows of `n`. -/
abbrev slabs (n : ℕ) : Shape := ⟨3, ![4, 4096, n]⟩
/-- One slab, with its unit axis. -/
abbrev slab (n : ℕ) : Shape := ⟨3, ![1, 4096, n]⟩
/-- One slab as a matrix. -/
abbrev rows (n : ℕ) : Shape := ⟨2, ![4096, n]⟩

/-- Writing one slab leaves another as it was. -/
theorem read_other_slab (M : Memref σ κ sp (slabs n) .f32) {j k : ℕ} (hjk : j ≠ k)
    (hj : ∀ a, (![j, 0, 0] : Fin 3 → ℕ) a + (slab n).size a ≤ (slabs n).size a)
    (hk : ∀ a, (![k, 0, 0] : Fin 3 → ℕ) a + (slab n).size a ≤ (slabs n).size a) (uj) (uk)
    (qj : (slab n).Squeezes (rows n)) (qk : (slab n).Squeezes (rows n)) (f : M.view.ty.Contents Val) (w : (rows n).Idx → Val .f32) :
    ((M.slice (Rect.unit (s := slabs n) ![k, 0, 0] (slab n).size hk) uk).squeeze (rows n) qk).view.read Val
        (((M.slice (Rect.unit (s := slabs n) ![j, 0, 0] (slab n).size hj) uj).squeeze (rows n) qj).view.write Val f w Finset.univ)
      = ((M.slice (Rect.unit (s := slabs n) ![k, 0, 0] (slab n).size hk) uk).squeeze (rows n) qk).view.read Val f := by
  funext y
  apply View.read_congr_at
  apply View.write_of_not_mem
  intro hm
  obtain ⟨x, _, hx⟩ := Finset.mem_map.mp hm
  have e : M.view.emb ((Rect.unit (s := slabs n) ![j, 0, 0] (slab n).size hj).emb (Shape.reshapeEquiv qj.numel_eq x))
      = M.view.emb ((Rect.unit (s := slabs n) ![k, 0, 0] (slab n).size hk).emb (Shape.reshapeEquiv qk.numel_eq y)) := hx
  have h0 := congrArg (fun i : (slabs n).Idx => (i 0 : ℕ)) (M.view.emb.injective e)
  have hz : ∀ z : (slab n).Idx, (z 0).val = 0 := fun z => by have h : (z 0).val < 1 := (z 0).isLt; omega
  simp only [Rect.emb_apply] at h0
  have h1 : j + 1 * (Shape.reshapeEquiv qj.numel_eq x (0 : Fin 3)).val = k + 1 * (Shape.reshapeEquiv qk.numel_eq y (0 : Fin 3)).val := h0
  have := hz (Shape.reshapeEquiv qj.numel_eq x)
  have := hz (Shape.reshapeEquiv qk.numel_eq y)
  omega

/-- A slab read after its own store, whatever was stored before it, is what was stored. -/
theorem read_stored_slab (M : Memref σ κ sp (slabs n) .f32) {off : Fin 3 → ℕ}
    (hk : ∀ a, off a + (slab n).size a ≤ (slabs n).size a) (uk) (qk : (slab n).Squeezes (rows n)) (f : M.view.ty.Contents Val)
    (v : (rows n).Idx → Val .f32) (h : (rows n).ShapeCasts (slab n)) (L : List (View.Piece Val (slabs n) .f32))
    (p : (slab n).Idx → Val .f32) (hp : p = shapeCast (slab n) v h) :
    ((M.slice (Rect.unit (s := slabs n) off (slab n).size hk) uk).squeeze (rows n) qk).view.read Val
        (M.view.writes Val f (⟨Rect.unit (s := slabs n) off (slab n).size hk, p⟩ :: L)) = v := by
  subst hp
  have hc : (slab n).ShapeCasts (rows n) := h.symm
  rw [show ((M.slice (Rect.unit (s := slabs n) off (slab n).size hk) uk).squeeze (rows n) qk).view.read Val
        (M.view.writes Val f (⟨Rect.unit (s := slabs n) off (slab n).size hk, shapeCast (slab n) v h⟩ :: L))
      = shapeCast (rows n) (M.view.readAt Val (Rect.unit (s := slabs n) off (slab n).size hk).toLoadRect
        (M.view.writes Val f (⟨Rect.unit (s := slabs n) off (slab n).size hk, shapeCast (slab n) v h⟩ :: L))) hc from rfl,
    show M.view.readAt Val (Rect.unit (s := slabs n) off (slab n).size hk).toLoadRect
        (M.view.writes Val f (⟨Rect.unit (s := slabs n) off (slab n).size hk, shapeCast (slab n) v h⟩ :: L))
      = shapeCast (slab n) v h from funext fun y => View.read_writes_cons_emb M.view f _ _ L y]
  exact shapeCast_shapeCast v h hc

/-- A buffer written whole, then loaded whole, gives what was written. -/
theorem load_whole {s : Shape} {e : EltTy} (M : Memref σ κ sp s e) {off : Fin s.rank → ℕ} (inb : ∀ a, off a + s.size a ≤ s.size a)
    (f : M.view.ty.Contents Val) (w : s.Idx → Val e) :
    M.view.readAt Val (Rect.unit off s.size inb).toLoadRect (M.view.write Val f w Finset.univ) = w := by
  rw [View.readAt_full, View.read_write_univ]

end Slabs

/-- Rows `4096 k` to `4096 k + 4095` of the samples. -/
def chunk (x : Arr F S16384x128) (k : ℕ) (hk : k < 4) : Arr F S4096x128 :=
  fun i => x (ix2 ⟨4096 * k + (i 0).val, by have h : (i 0).val < 4096 := (i 0).isLt; omega⟩ (i 1))

/-- The result: each row from its chunk. -/
def result [Named F] (c : Dev nD) (fh0 : BufOf (F := F) c main_arg0)
    (fh1 : BufOf (F := F) c main_v0)
    (fh2 : BufOf (F := F) c main_arg2)
    (fh3 : BufOf (F := F) c main_v1)
    (fh4 : BufOf (F := F) c main_arg4)
    (fh5 : BufOf (F := F) c main_v2)
    (fh6 : BufOf (F := F) c main_arg6)
    (fh7 : BufOf (F := F) c main_v3)
    (fh8 : BufOf (F := F) c main_arg8)
    (fh9 : BufOf (F := F) c main_v4)
    (fh10 : BufOf (F := F) c main_arg10)
    (fh11 : BufOf (F := F) c main_v5)
    (fh12 : BufOf (F := F) c main_arg12)
    (fh13 : BufOf (F := F) c main_v6)
    (fh14 : BufOf (F := F) c main_arg14)
    (fh15 : BufOf (F := F) c main_v7)
    (fh16 : BufOf (F := F) c main_arg16)
    (fh17 : BufOf (F := F) c main_v8) : BufOf (F := F) c main_v9 := fun i =>
  blockOut (chunk fh0 ((i 0).val / 4096) (by have h : (i 0).val < 16384 := (i 0).isLt; omega)) fh1 fh2 fh3 fh4 fh5 fh6 fh7 fh8 fh9 fh10 fh11 fh12 fh13 fh14 fh15 fh16 fh17
    (ix2 ⟨(i 0).val % 4096, Nat.mod_lt _ (by decide)⟩ (i 1))

/-- The load of operand 1. -/
theorem load_v88 (c : Dev nD) (fh1 : BufOf (F := F) c main_v0) (fs2 : BufOf (F := F) c cc0_scratch2) :
    kernelRun0.sl.v88 c fh1 fs2 = fh1 := load_whole (Memref.whole cc0_scratch2) _ fs2 _

/-- The load of operand 2. -/
theorem load_v95 (c : Dev nD) (fh2 : BufOf (F := F) c main_arg2) (fs3 : BufOf (F := F) c cc0_scratch3) :
    kernelRun0.sl.v95 c fh2 fs3 = fh2 := load_whole (Memref.whole cc0_scratch3) _ fs3 _

/-- The load of operand 3. -/
theorem load_v102 (c : Dev nD) (fh3 : BufOf (F := F) c main_v1) (fs4 : BufOf (F := F) c cc0_scratch4) :
    kernelRun0.sl.v102 c fh3 fs4 = fh3 := load_whole (Memref.whole cc0_scratch4) _ fs4 _

/-- The load of operand 4. -/
theorem load_v117 (c : Dev nD) (fh4 : BufOf (F := F) c main_arg4) (fs5 : BufOf (F := F) c cc0_scratch5) :
    kernelRun0.sl.v117 c fh4 fs5 = fh4 := load_whole (Memref.whole cc0_scratch5) _ fs5 _

/-- The load of operand 5. -/
theorem load_v104 (c : Dev nD) (fh5 : BufOf (F := F) c main_v2) (fs6 : BufOf (F := F) c cc0_scratch6) :
    kernelRun0.sl.v104 c fh5 fs6 = fh5 := load_whole (Memref.whole cc0_scratch6) _ fs6 _

/-- The load of operand 6. -/
theorem load_v118 (c : Dev nD) (fh6 : BufOf (F := F) c main_arg6) (fs7 : BufOf (F := F) c cc0_scratch7) :
    kernelRun0.sl.v118 c fh6 fs7 = fh6 := load_whole (Memref.whole cc0_scratch7) _ fs7 _

/-- The load of operand 7. -/
theorem load_v106 (c : Dev nD) (fh7 : BufOf (F := F) c main_v3) (fs8 : BufOf (F := F) c cc0_scratch8) :
    kernelRun0.sl.v106 c fh7 fs8 = fh7 := load_whole (Memref.whole cc0_scratch8) _ fs8 _

/-- The load of operand 8. -/
theorem load_v119 (c : Dev nD) (fh8 : BufOf (F := F) c main_arg8) (fs9 : BufOf (F := F) c cc0_scratch9) :
    kernelRun0.sl.v119 c fh8 fs9 = fh8 := load_whole (Memref.whole cc0_scratch9) _ fs9 _

/-- The load of operand 9. -/
theorem load_v108 (c : Dev nD) (fh9 : BufOf (F := F) c main_v4) (fs10 : BufOf (F := F) c cc0_scratch10) :
    kernelRun0.sl.v108 c fh9 fs10 = fh9 := load_whole (Memref.whole cc0_scratch10) _ fs10 _

/-- The load of operand 10. -/
theorem load_v120 (c : Dev nD) (fh10 : BufOf (F := F) c main_arg10) (fs11 : BufOf (F := F) c cc0_scratch11) :
    kernelRun0.sl.v120 c fh10 fs11 = fh10 := load_whole (Memref.whole cc0_scratch11) _ fs11 _

/-- The load of operand 11. -/
theorem load_v110 (c : Dev nD) (fh11 : BufOf (F := F) c main_v5) (fs12 : BufOf (F := F) c cc0_scratch12) :
    kernelRun0.sl.v110 c fh11 fs12 = fh11 := load_whole (Memref.whole cc0_scratch12) _ fs12 _

/-- The load of operand 12. -/
theorem load_v97 (c : Dev nD) (fh12 : BufOf (F := F) c main_arg12) (fs13 : BufOf (F := F) c cc0_scratch13) :
    kernelRun0.sl.v97 c fh12 fs13 = fh12 := load_whole (Memref.whole cc0_scratch13) _ fs13 _

/-- The load of operand 13. -/
theorem load_v101 (c : Dev nD) (fh13 : BufOf (F := F) c main_v6) (fs14 : BufOf (F := F) c cc0_scratch14) :
    kernelRun0.sl.v101 c fh13 fs14 = fh13 := load_whole (Memref.whole cc0_scratch14) _ fs14 _

/-- The load of operand 14. -/
theorem load_v121 (c : Dev nD) (fh14 : BufOf (F := F) c main_arg14) (fs15 : BufOf (F := F) c cc0_scratch15) :
    kernelRun0.sl.v121 c fh14 fs15 = fh14 := load_whole (Memref.whole cc0_scratch15) _ fs15 _

/-- The load of operand 15. -/
theorem load_v113 (c : Dev nD) (fh15 : BufOf (F := F) c main_v7) (fs16 : BufOf (F := F) c cc0_scratch16) :
    kernelRun0.sl.v113 c fh15 fs16 = fh15 := load_whole (Memref.whole cc0_scratch16) _ fs16 _

/-- The load of operand 16. -/
theorem load_v122 (c : Dev nD) (fh16 : BufOf (F := F) c main_arg16) (fs17 : BufOf (F := F) c cc0_scratch17) :
    kernelRun0.sl.v122 c fh16 fs17 = fh16 := load_whole (Memref.whole cc0_scratch17) _ fs17 _

/-- The load of operand 17. -/
theorem load_v115 (c : Dev nD) (fh17 : BufOf (F := F) c main_v8) (fs18 : BufOf (F := F) c cc0_scratch18) :
    kernelRun0.sl.v115 c fh17 fs18 = fh17 := load_whole (Memref.whole cc0_scratch18) _ fs18 _

/-- A transfer of a chunk of the samples reads the chunk. -/
theorem dma_chunk (c : Dev nD) (fh0 : BufOf (F := F) c main_arg0) (k : ℕ) (hk : k < 4) {off : Fin 2 → ℕ} (hoff : off = ![4096 * k, 0])
    (inb : ∀ a, off a + S4096x128.size a ≤ S16384x128.size a) (u) :
    View.read (Elt F) ((Memref.whole main_arg0).slice (Rect.unit (s := S16384x128) off S4096x128.size inb) u).view fh0 = chunk fh0 k hk := by
  subst hoff
  funext y
  refine congrArg fh0 (funext fun a => Fin.ext ?_)
  match a with
  | ⟨0, _⟩ => show 4096 * k + 1 * (y 0).val = 4096 * k + (y 0).val; omega
  | ⟨1, _⟩ => show 0 + 1 * (y 1).val = (y 1).val; omega

/-- Chunk 0's transfer. -/
theorem dma_chunk_0 (c : Dev nD) (fh0 : BufOf (F := F) c main_arg0) :
    kernelRun0.sl.dma0 c fh0 = chunk fh0 0 (by decide) := dma_chunk c fh0 0 (by decide) rfl _ _

/-- Chunk 1's transfer. -/
theorem dma_chunk_1 (c : Dev nD) (fh0 : BufOf (F := F) c main_arg0) :
    kernelRun0.sl.dma0_1 c fh0 = chunk fh0 1 (by decide) := dma_chunk c fh0 1 (by decide) rfl _ _

/-- Chunk 2's transfer. -/
theorem dma_chunk_2 (c : Dev nD) (fh0 : BufOf (F := F) c main_arg0) :
    kernelRun0.sl.dma0_2 c fh0 = chunk fh0 2 (by decide) := dma_chunk c fh0 2 (by decide) rfl _ _

/-- Chunk 3's transfer. -/
theorem dma_chunk_3 (c : Dev nD) (fh0 : BufOf (F := F) c main_arg0) :
    kernelRun0.sl.dma0_3 c fh0 = chunk fh0 3 (by decide) := dma_chunk c fh0 3 (by decide) rfl _ _

/-- The load of chunk 0. -/
theorem load_chunk_0 (c : Dev nD) (fh0 : BufOf (F := F) c main_arg0) (fs0 : BufOf (F := F) c cc0_scratch0) :
    shapeCast S4096x128 (kernelRun0.sl.v129 c fh0 fs0) shapeCasts_S1x4096x128_S4096x128 = chunk fh0 0 (by decide) := by
  unfold kernelRun0.sl.v129
  rw [← Memref.read_squeeze_slice (Memref.whole cc0_scratch0) _ (fun _ => rfl) squeezes_S1x4096x128_S4096x128]
  rw [read_other_slab _ (show 3 ≠ 0 by decide), read_other_slab _ (show 2 ≠ 0 by decide), read_other_slab _ (show 1 ≠ 0 by decide), View.read_write_univ, dma_chunk_0]

/-- The load of chunk 1. -/
theorem load_chunk_1 (c : Dev nD) (fh0 : BufOf (F := F) c main_arg0) (fs0 : BufOf (F := F) c cc0_scratch0) :
    shapeCast S4096x128 (kernelRun0.sl.v282 c fh0 fs0) shapeCasts_S1x4096x128_S4096x128 = chunk fh0 1 (by decide) := by
  unfold kernelRun0.sl.v282
  rw [← Memref.read_squeeze_slice (Memref.whole cc0_scratch0) _ (fun _ => rfl) squeezes_S1x4096x128_S4096x128]
  rw [read_other_slab _ (show 3 ≠ 1 by decide), read_other_slab _ (show 2 ≠ 1 by decide), View.read_write_univ, dma_chunk_1]

/-- The load of chunk 2. -/
theorem load_chunk_2 (c : Dev nD) (fh0 : BufOf (F := F) c main_arg0) (fs0 : BufOf (F := F) c cc0_scratch0) :
    shapeCast S4096x128 (kernelRun0.sl.v435 c fh0 fs0) shapeCasts_S1x4096x128_S4096x128 = chunk fh0 2 (by decide) := by
  unfold kernelRun0.sl.v435
  rw [← Memref.read_squeeze_slice (Memref.whole cc0_scratch0) _ (fun _ => rfl) squeezes_S1x4096x128_S4096x128]
  rw [read_other_slab _ (show 3 ≠ 2 by decide), View.read_write_univ, dma_chunk_2]

/-- The load of chunk 3. -/
theorem load_chunk_3 (c : Dev nD) (fh0 : BufOf (F := F) c main_arg0) (fs0 : BufOf (F := F) c cc0_scratch0) :
    shapeCast S4096x128 (kernelRun0.sl.v588 c fh0 fs0) shapeCasts_S1x4096x128_S4096x128 = chunk fh0 3 (by decide) := by
  unfold kernelRun0.sl.v588
  rw [← Memref.read_squeeze_slice (Memref.whole cc0_scratch0) _ (fun _ => rfl) squeezes_S1x4096x128_S4096x128]
  rw [View.read_write_univ, dma_chunk_3]

/-- The result at a row of chunk `k`. -/
theorem result_chunk [Named F] (c : Dev nD) (fh0 : BufOf (F := F) c main_arg0)
    (fh1 : BufOf (F := F) c main_v0)
    (fh2 : BufOf (F := F) c main_arg2)
    (fh3 : BufOf (F := F) c main_v1)
    (fh4 : BufOf (F := F) c main_arg4)
    (fh5 : BufOf (F := F) c main_v2)
    (fh6 : BufOf (F := F) c main_arg6)
    (fh7 : BufOf (F := F) c main_v3)
    (fh8 : BufOf (F := F) c main_arg8)
    (fh9 : BufOf (F := F) c main_v4)
    (fh10 : BufOf (F := F) c main_arg10)
    (fh11 : BufOf (F := F) c main_v5)
    (fh12 : BufOf (F := F) c main_arg12)
    (fh13 : BufOf (F := F) c main_v6)
    (fh14 : BufOf (F := F) c main_arg14)
    (fh15 : BufOf (F := F) c main_v7)
    (fh16 : BufOf (F := F) c main_arg16)
    (fh17 : BufOf (F := F) c main_v8) (k : ℕ) (hk : k < 4) (i : S16384x4.Idx) (x : S4096x4.Idx)
    (h0 : (i 0).val = 4096 * k + (x 0).val) (h1 : (i 1).val = (x 1).val) :
    result c fh0 fh1 fh2 fh3 fh4 fh5 fh6 fh7 fh8 fh9 fh10 fh11 fh12 fh13 fh14 fh15 fh16 fh17 i = blockOut (chunk fh0 k hk) fh1 fh2 fh3 fh4 fh5 fh6 fh7 fh8 fh9 fh10 fh11 fh12 fh13 fh14 fh15 fh16 fh17 x := by
  have hx : (x 0).val < 4096 := (x 0).isLt
  obtain rfl : (i 0).val / 4096 = k := by omega
  refine congrArg (blockOut (chunk fh0 ((i 0).val / 4096) hk) fh1 fh2 fh3 fh4 fh5 fh6 fh7 fh8 fh9 fh10 fh11 fh12 fh13 fh14 fh15 fh16 fh17) (funext fun a => Fin.ext ?_)
  match a with
  | ⟨0, _⟩ => show (i 0).val % 4096 = (x 0).val; omega
  | ⟨1, _⟩ => exact h1

/-- A rectangle of whole rows lies in the result. -/
theorem rows_inb {k : ℕ} (hk : k < 4) : ∀ a, (![4096 * k, 0] : Fin 2 → ℕ) a + S4096x4.size a ≤ S16384x4.size a
  | ⟨0, _⟩ => by show 4096 * k + 4096 ≤ 16384; omega
  | ⟨1, _⟩ => by show 0 + 4 ≤ 4; omega
/-- A slab lies in the scratch. -/
theorem slab_inb {k : ℕ} (hk : k < 4) : ∀ a, (![k, 0, 0] : Fin 3 → ℕ) a + S1x4096x4.size a ≤ S4x4096x4.size a
  | ⟨0, _⟩ => by show k + 1 ≤ 4; omega
  | ⟨1, _⟩ => by show 0 + 4096 ≤ 4096; omega
  | ⟨2, _⟩ => by show 0 + 4 ≤ 4; omega

/-- Equal samples and weights give equal results. -/
theorem blockOut_congr [Named F] {x x' : Arr F S4096x128} {w w' : Arr F S100x128} {w1 w1' : Arr F S128x64} {b1 b1' : Arr F S1x64} {w2 w2' : Arr F S64x32} {b2 b2' : Arr F S1x32} {w3 w3' : Arr F S32x4} {b3 b3' : Arr F S1x4} {w4 w4' : Arr F S4x32} {b4 b4' : Arr F S1x32} {w5 w5' : Arr F S32x64} {b5 b5' : Arr F S1x64} {w6 w6' : Arr F S64x128} {b6 b6' : Arr F S1x128} {g1 g1' : Arr F S8x10} {c1 c1' : Arr F S1x10} {g2 g2' : Arr F S10x4} {c2 c2' : Arr F S1x4}
    (h0 : x = x') (h1 : w = w') (h2 : w1 = w1') (h3 : b1 = b1') (h4 : w2 = w2') (h5 : b2 = b2') (h6 : w3 = w3') (h7 : b3 = b3') (h8 : w4 = w4') (h9 : b4 = b4') (h10 : w5 = w5') (h11 : b5 = b5') (h12 : w6 = w6') (h13 : b6 = b6') (h14 : g1 = g1') (h15 : c1 = c1') (h16 : g2 = g2') (h17 : c2 = c2') :
    blockOut x w w1 b1 w2 b2 w3 b3 w4 b4 w5 b5 w6 b6 g1 c1 g2 c2 = blockOut x' w' w1' b1' w2' b2' w3' b3' w4' b4' w5' b5' w6' b6' g1' c1' g2' c2' := by
  subst h0 h1 h2 h3 h4 h5 h6 h7 h8 h9 h10 h11 h12 h13 h14 h15 h16 h17; rfl

/-- What chunk 0 stores, in the operands. -/
theorem computed_0 [Named F] (c : Dev nD) (fh0 : BufOf (F := F) c main_arg0)
    (fh1 : BufOf (F := F) c main_v0)
    (fh2 : BufOf (F := F) c main_arg2)
    (fh3 : BufOf (F := F) c main_v1)
    (fh4 : BufOf (F := F) c main_arg4)
    (fh5 : BufOf (F := F) c main_v2)
    (fh6 : BufOf (F := F) c main_arg6)
    (fh7 : BufOf (F := F) c main_v3)
    (fh8 : BufOf (F := F) c main_arg8)
    (fh9 : BufOf (F := F) c main_v4)
    (fh10 : BufOf (F := F) c main_arg10)
    (fh11 : BufOf (F := F) c main_v5)
    (fh12 : BufOf (F := F) c main_arg12)
    (fh13 : BufOf (F := F) c main_v6)
    (fh14 : BufOf (F := F) c main_arg14)
    (fh15 : BufOf (F := F) c main_v7)
    (fh16 : BufOf (F := F) c main_arg16)
    (fh17 : BufOf (F := F) c main_v8) (fs0 : BufOf (F := F) c cc0_scratch0)
    (fs1 : BufOf (F := F) c cc0_scratch1)
    (fs2 : BufOf (F := F) c cc0_scratch2)
    (fs3 : BufOf (F := F) c cc0_scratch3)
    (fs4 : BufOf (F := F) c cc0_scratch4)
    (fs5 : BufOf (F := F) c cc0_scratch5)
    (fs6 : BufOf (F := F) c cc0_scratch6)
    (fs7 : BufOf (F := F) c cc0_scratch7)
    (fs8 : BufOf (F := F) c cc0_scratch8)
    (fs9 : BufOf (F := F) c cc0_scratch9)
    (fs10 : BufOf (F := F) c cc0_scratch10)
    (fs11 : BufOf (F := F) c cc0_scratch11)
    (fs12 : BufOf (F := F) c cc0_scratch12)
    (fs13 : BufOf (F := F) c cc0_scratch13)
    (fs14 : BufOf (F := F) c cc0_scratch14)
    (fs15 : BufOf (F := F) c cc0_scratch15)
    (fs16 : BufOf (F := F) c cc0_scratch16)
    (fs17 : BufOf (F := F) c cc0_scratch17)
    (fs18 : BufOf (F := F) c cc0_scratch18) :
    kernelRun0.sl.v271 c fh0 fh1 fh2 fh3 fh4 fh5 fh6 fh7 fh8 fh9 fh10 fh11 fh12 fh13 fh14 fh15 fh16 fh17 fs0 fs2 fs3 fs4 fs5 fs6 fs7 fs8 fs9 fs10 fs11 fs12 fs13 fs14 fs15 fs16 fs17 fs18 = shapeCast S1x4096x4 (blockOut (chunk fh0 0 (by decide)) fh1 fh2 fh3 fh4 fh5 fh6 fh7 fh8 fh9 fh10 fh11 fh12 fh13 fh14 fh15 fh16 fh17) shapeCasts_S4096x4_S1x4096x4 := by
  exact (stored_0 c fh0 fh1 fh2 fh3 fh4 fh5 fh6 fh7 fh8 fh9 fh10 fh11 fh12 fh13 fh14 fh15 fh16 fh17 fs0 fs1 fs2 fs3 fs4 fs5 fs6 fs7 fs8 fs9 fs10 fs11 fs12 fs13 fs14 fs15 fs16 fs17 fs18).trans (congrArg (fun t => shapeCast S1x4096x4 t shapeCasts_S4096x4_S1x4096x4)
    (blockOut_congr (load_chunk_0 c fh0 fs0) (load_v88 c fh1 fs2) (load_v95 c fh2 fs3) (load_v102 c fh3 fs4) (load_v117 c fh4 fs5) (load_v104 c fh5 fs6) (load_v118 c fh6 fs7) (load_v106 c fh7 fs8) (load_v119 c fh8 fs9) (load_v108 c fh9 fs10) (load_v120 c fh10 fs11) (load_v110 c fh11 fs12) (load_v97 c fh12 fs13) (load_v101 c fh13 fs14) (load_v121 c fh14 fs15) (load_v113 c fh15 fs16) (load_v122 c fh16 fs17) (load_v115 c fh17 fs18)))

/-- What chunk 0's transfer to the result carries. -/
theorem carried_0 [Named F] (c : Dev nD) (fh0 : BufOf (F := F) c main_arg0)
    (fh1 : BufOf (F := F) c main_v0)
    (fh2 : BufOf (F := F) c main_arg2)
    (fh3 : BufOf (F := F) c main_v1)
    (fh4 : BufOf (F := F) c main_arg4)
    (fh5 : BufOf (F := F) c main_v2)
    (fh6 : BufOf (F := F) c main_arg6)
    (fh7 : BufOf (F := F) c main_v3)
    (fh8 : BufOf (F := F) c main_arg8)
    (fh9 : BufOf (F := F) c main_v4)
    (fh10 : BufOf (F := F) c main_arg10)
    (fh11 : BufOf (F := F) c main_v5)
    (fh12 : BufOf (F := F) c main_arg12)
    (fh13 : BufOf (F := F) c main_v6)
    (fh14 : BufOf (F := F) c main_arg14)
    (fh15 : BufOf (F := F) c main_v7)
    (fh16 : BufOf (F := F) c main_arg16)
    (fh17 : BufOf (F := F) c main_v8) (fs0 : BufOf (F := F) c cc0_scratch0)
    (fs1 : BufOf (F := F) c cc0_scratch1)
    (fs2 : BufOf (F := F) c cc0_scratch2)
    (fs3 : BufOf (F := F) c cc0_scratch3)
    (fs4 : BufOf (F := F) c cc0_scratch4)
    (fs5 : BufOf (F := F) c cc0_scratch5)
    (fs6 : BufOf (F := F) c cc0_scratch6)
    (fs7 : BufOf (F := F) c cc0_scratch7)
    (fs8 : BufOf (F := F) c cc0_scratch8)
    (fs9 : BufOf (F := F) c cc0_scratch9)
    (fs10 : BufOf (F := F) c cc0_scratch10)
    (fs11 : BufOf (F := F) c cc0_scratch11)
    (fs12 : BufOf (F := F) c cc0_scratch12)
    (fs13 : BufOf (F := F) c cc0_scratch13)
    (fs14 : BufOf (F := F) c cc0_scratch14)
    (fs15 : BufOf (F := F) c cc0_scratch15)
    (fs16 : BufOf (F := F) c cc0_scratch16)
    (fs17 : BufOf (F := F) c cc0_scratch17)
    (fs18 : BufOf (F := F) c cc0_scratch18) :
    kernelRun0.sl.dma21 c fh0 fh1 fh2 fh3 fh4 fh5 fh6 fh7 fh8 fh9 fh10 fh11 fh12 fh13 fh14 fh15 fh16 fh17 fs0 fs1 fs2 fs3 fs4 fs5 fs6 fs7 fs8 fs9 fs10 fs11 fs12 fs13 fs14 fs15 fs16 fs17 fs18 = blockOut (chunk fh0 0 (by decide)) fh1 fh2 fh3 fh4 fh5 fh6 fh7 fh8 fh9 fh10 fh11 fh12 fh13 fh14 fh15 fh16 fh17 := by
  have e : kernelRun0.sl.dma21 c fh0 fh1 fh2 fh3 fh4 fh5 fh6 fh7 fh8 fh9 fh10 fh11 fh12 fh13 fh14 fh15 fh16 fh17 fs0 fs1 fs2 fs3 fs4 fs5 fs6 fs7 fs8 fs9 fs10 fs11 fs12 fs13 fs14 fs15 fs16 fs17 fs18
      = (((Memref.whole cc0_scratch1).slice (Rect.unit (s := S4x4096x4) ![0, 0, 0] S1x4096x4.size (slab_inb (k := 0) (by decide)))
          (fun _ => rfl)).squeeze S4096x4 squeezes_S1x4096x4_S4096x4).view.read (Elt F)
        ((Memref.whole cc0_scratch1).view.writes (Elt F) fs1
          (⟨Rect.unit (s := S4x4096x4) ![0, 0, 0] S1x4096x4.size (slab_inb (k := 0) (by decide)), kernelRun0.sl.v271 c fh0 fh1 fh2 fh3 fh4 fh5 fh6 fh7 fh8 fh9 fh10 fh11 fh12 fh13 fh14 fh15 fh16 fh17 fs0 fs2 fs3 fs4 fs5 fs6 fs7 fs8 fs9 fs10 fs11 fs12 fs13 fs14 fs15 fs16 fs17 fs18⟩
            :: [])) := by sl_kernel_rfl
  exact e.trans (read_stored_slab (Memref.whole cc0_scratch1) _ _ squeezes_S1x4096x4_S4096x4 fs1 _ _ _ _ (computed_0 c fh0 fh1 fh2 fh3 fh4 fh5 fh6 fh7 fh8 fh9 fh10 fh11 fh12 fh13 fh14 fh15 fh16 fh17 fs0 fs1 fs2 fs3 fs4 fs5 fs6 fs7 fs8 fs9 fs10 fs11 fs12 fs13 fs14 fs15 fs16 fs17 fs18))

/-- What chunk 1 stores, in the operands. -/
theorem computed_1 [Named F] (c : Dev nD) (fh0 : BufOf (F := F) c main_arg0)
    (fh1 : BufOf (F := F) c main_v0)
    (fh2 : BufOf (F := F) c main_arg2)
    (fh3 : BufOf (F := F) c main_v1)
    (fh4 : BufOf (F := F) c main_arg4)
    (fh5 : BufOf (F := F) c main_v2)
    (fh6 : BufOf (F := F) c main_arg6)
    (fh7 : BufOf (F := F) c main_v3)
    (fh8 : BufOf (F := F) c main_arg8)
    (fh9 : BufOf (F := F) c main_v4)
    (fh10 : BufOf (F := F) c main_arg10)
    (fh11 : BufOf (F := F) c main_v5)
    (fh12 : BufOf (F := F) c main_arg12)
    (fh13 : BufOf (F := F) c main_v6)
    (fh14 : BufOf (F := F) c main_arg14)
    (fh15 : BufOf (F := F) c main_v7)
    (fh16 : BufOf (F := F) c main_arg16)
    (fh17 : BufOf (F := F) c main_v8) (fs0 : BufOf (F := F) c cc0_scratch0)
    (fs1 : BufOf (F := F) c cc0_scratch1)
    (fs2 : BufOf (F := F) c cc0_scratch2)
    (fs3 : BufOf (F := F) c cc0_scratch3)
    (fs4 : BufOf (F := F) c cc0_scratch4)
    (fs5 : BufOf (F := F) c cc0_scratch5)
    (fs6 : BufOf (F := F) c cc0_scratch6)
    (fs7 : BufOf (F := F) c cc0_scratch7)
    (fs8 : BufOf (F := F) c cc0_scratch8)
    (fs9 : BufOf (F := F) c cc0_scratch9)
    (fs10 : BufOf (F := F) c cc0_scratch10)
    (fs11 : BufOf (F := F) c cc0_scratch11)
    (fs12 : BufOf (F := F) c cc0_scratch12)
    (fs13 : BufOf (F := F) c cc0_scratch13)
    (fs14 : BufOf (F := F) c cc0_scratch14)
    (fs15 : BufOf (F := F) c cc0_scratch15)
    (fs16 : BufOf (F := F) c cc0_scratch16)
    (fs17 : BufOf (F := F) c cc0_scratch17)
    (fs18 : BufOf (F := F) c cc0_scratch18) :
    kernelRun0.sl.v424 c fh0 fh1 fh2 fh3 fh4 fh5 fh6 fh7 fh8 fh9 fh10 fh11 fh12 fh13 fh14 fh15 fh16 fh17 fs0 fs2 fs3 fs4 fs5 fs6 fs7 fs8 fs9 fs10 fs11 fs12 fs13 fs14 fs15 fs16 fs17 fs18 = shapeCast S1x4096x4 (blockOut (chunk fh0 1 (by decide)) fh1 fh2 fh3 fh4 fh5 fh6 fh7 fh8 fh9 fh10 fh11 fh12 fh13 fh14 fh15 fh16 fh17) shapeCasts_S4096x4_S1x4096x4 := by
  exact (stored_1 c fh0 fh1 fh2 fh3 fh4 fh5 fh6 fh7 fh8 fh9 fh10 fh11 fh12 fh13 fh14 fh15 fh16 fh17 fs0 fs1 fs2 fs3 fs4 fs5 fs6 fs7 fs8 fs9 fs10 fs11 fs12 fs13 fs14 fs15 fs16 fs17 fs18).trans (congrArg (fun t => shapeCast S1x4096x4 t shapeCasts_S4096x4_S1x4096x4)
    (blockOut_congr (load_chunk_1 c fh0 fs0) (load_v88 c fh1 fs2) (load_v95 c fh2 fs3) (load_v102 c fh3 fs4) (load_v117 c fh4 fs5) (load_v104 c fh5 fs6) (load_v118 c fh6 fs7) (load_v106 c fh7 fs8) (load_v119 c fh8 fs9) (load_v108 c fh9 fs10) (load_v120 c fh10 fs11) (load_v110 c fh11 fs12) (load_v97 c fh12 fs13) (load_v101 c fh13 fs14) (load_v121 c fh14 fs15) (load_v113 c fh15 fs16) (load_v122 c fh16 fs17) (load_v115 c fh17 fs18)))

/-- What chunk 1's transfer to the result carries. -/
theorem carried_1 [Named F] (c : Dev nD) (fh0 : BufOf (F := F) c main_arg0)
    (fh1 : BufOf (F := F) c main_v0)
    (fh2 : BufOf (F := F) c main_arg2)
    (fh3 : BufOf (F := F) c main_v1)
    (fh4 : BufOf (F := F) c main_arg4)
    (fh5 : BufOf (F := F) c main_v2)
    (fh6 : BufOf (F := F) c main_arg6)
    (fh7 : BufOf (F := F) c main_v3)
    (fh8 : BufOf (F := F) c main_arg8)
    (fh9 : BufOf (F := F) c main_v4)
    (fh10 : BufOf (F := F) c main_arg10)
    (fh11 : BufOf (F := F) c main_v5)
    (fh12 : BufOf (F := F) c main_arg12)
    (fh13 : BufOf (F := F) c main_v6)
    (fh14 : BufOf (F := F) c main_arg14)
    (fh15 : BufOf (F := F) c main_v7)
    (fh16 : BufOf (F := F) c main_arg16)
    (fh17 : BufOf (F := F) c main_v8) (fs0 : BufOf (F := F) c cc0_scratch0)
    (fs1 : BufOf (F := F) c cc0_scratch1)
    (fs2 : BufOf (F := F) c cc0_scratch2)
    (fs3 : BufOf (F := F) c cc0_scratch3)
    (fs4 : BufOf (F := F) c cc0_scratch4)
    (fs5 : BufOf (F := F) c cc0_scratch5)
    (fs6 : BufOf (F := F) c cc0_scratch6)
    (fs7 : BufOf (F := F) c cc0_scratch7)
    (fs8 : BufOf (F := F) c cc0_scratch8)
    (fs9 : BufOf (F := F) c cc0_scratch9)
    (fs10 : BufOf (F := F) c cc0_scratch10)
    (fs11 : BufOf (F := F) c cc0_scratch11)
    (fs12 : BufOf (F := F) c cc0_scratch12)
    (fs13 : BufOf (F := F) c cc0_scratch13)
    (fs14 : BufOf (F := F) c cc0_scratch14)
    (fs15 : BufOf (F := F) c cc0_scratch15)
    (fs16 : BufOf (F := F) c cc0_scratch16)
    (fs17 : BufOf (F := F) c cc0_scratch17)
    (fs18 : BufOf (F := F) c cc0_scratch18) :
    kernelRun0.sl.dma24 c fh0 fh1 fh2 fh3 fh4 fh5 fh6 fh7 fh8 fh9 fh10 fh11 fh12 fh13 fh14 fh15 fh16 fh17 fs0 fs1 fs2 fs3 fs4 fs5 fs6 fs7 fs8 fs9 fs10 fs11 fs12 fs13 fs14 fs15 fs16 fs17 fs18 = blockOut (chunk fh0 1 (by decide)) fh1 fh2 fh3 fh4 fh5 fh6 fh7 fh8 fh9 fh10 fh11 fh12 fh13 fh14 fh15 fh16 fh17 := by
  have e : kernelRun0.sl.dma24 c fh0 fh1 fh2 fh3 fh4 fh5 fh6 fh7 fh8 fh9 fh10 fh11 fh12 fh13 fh14 fh15 fh16 fh17 fs0 fs1 fs2 fs3 fs4 fs5 fs6 fs7 fs8 fs9 fs10 fs11 fs12 fs13 fs14 fs15 fs16 fs17 fs18
      = (((Memref.whole cc0_scratch1).slice (Rect.unit (s := S4x4096x4) ![1, 0, 0] S1x4096x4.size (slab_inb (k := 1) (by decide)))
          (fun _ => rfl)).squeeze S4096x4 squeezes_S1x4096x4_S4096x4).view.read (Elt F)
        ((Memref.whole cc0_scratch1).view.writes (Elt F) fs1
          (⟨Rect.unit (s := S4x4096x4) ![1, 0, 0] S1x4096x4.size (slab_inb (k := 1) (by decide)), kernelRun0.sl.v424 c fh0 fh1 fh2 fh3 fh4 fh5 fh6 fh7 fh8 fh9 fh10 fh11 fh12 fh13 fh14 fh15 fh16 fh17 fs0 fs2 fs3 fs4 fs5 fs6 fs7 fs8 fs9 fs10 fs11 fs12 fs13 fs14 fs15 fs16 fs17 fs18⟩
            :: (kernelRun0.sl.HS1_1 c fh0 fh1 fh2 fh3 fh4 fh5 fh6 fh7 fh8 fh9 fh10 fh11 fh12 fh13 fh14 fh15 fh16 fh17 fs0 fs2 fs3 fs4 fs5 fs6 fs7 fs8 fs9 fs10 fs11 fs12 fs13 fs14 fs15 fs16 fs17 fs18))) := by sl_kernel_rfl
  exact e.trans (read_stored_slab (Memref.whole cc0_scratch1) _ _ squeezes_S1x4096x4_S4096x4 fs1 _ _ _ _ (computed_1 c fh0 fh1 fh2 fh3 fh4 fh5 fh6 fh7 fh8 fh9 fh10 fh11 fh12 fh13 fh14 fh15 fh16 fh17 fs0 fs1 fs2 fs3 fs4 fs5 fs6 fs7 fs8 fs9 fs10 fs11 fs12 fs13 fs14 fs15 fs16 fs17 fs18))

/-- What chunk 2 stores, in the operands. -/
theorem computed_2 [Named F] (c : Dev nD) (fh0 : BufOf (F := F) c main_arg0)
    (fh1 : BufOf (F := F) c main_v0)
    (fh2 : BufOf (F := F) c main_arg2)
    (fh3 : BufOf (F := F) c main_v1)
    (fh4 : BufOf (F := F) c main_arg4)
    (fh5 : BufOf (F := F) c main_v2)
    (fh6 : BufOf (F := F) c main_arg6)
    (fh7 : BufOf (F := F) c main_v3)
    (fh8 : BufOf (F := F) c main_arg8)
    (fh9 : BufOf (F := F) c main_v4)
    (fh10 : BufOf (F := F) c main_arg10)
    (fh11 : BufOf (F := F) c main_v5)
    (fh12 : BufOf (F := F) c main_arg12)
    (fh13 : BufOf (F := F) c main_v6)
    (fh14 : BufOf (F := F) c main_arg14)
    (fh15 : BufOf (F := F) c main_v7)
    (fh16 : BufOf (F := F) c main_arg16)
    (fh17 : BufOf (F := F) c main_v8) (fs0 : BufOf (F := F) c cc0_scratch0)
    (fs1 : BufOf (F := F) c cc0_scratch1)
    (fs2 : BufOf (F := F) c cc0_scratch2)
    (fs3 : BufOf (F := F) c cc0_scratch3)
    (fs4 : BufOf (F := F) c cc0_scratch4)
    (fs5 : BufOf (F := F) c cc0_scratch5)
    (fs6 : BufOf (F := F) c cc0_scratch6)
    (fs7 : BufOf (F := F) c cc0_scratch7)
    (fs8 : BufOf (F := F) c cc0_scratch8)
    (fs9 : BufOf (F := F) c cc0_scratch9)
    (fs10 : BufOf (F := F) c cc0_scratch10)
    (fs11 : BufOf (F := F) c cc0_scratch11)
    (fs12 : BufOf (F := F) c cc0_scratch12)
    (fs13 : BufOf (F := F) c cc0_scratch13)
    (fs14 : BufOf (F := F) c cc0_scratch14)
    (fs15 : BufOf (F := F) c cc0_scratch15)
    (fs16 : BufOf (F := F) c cc0_scratch16)
    (fs17 : BufOf (F := F) c cc0_scratch17)
    (fs18 : BufOf (F := F) c cc0_scratch18) :
    kernelRun0.sl.v577 c fh0 fh1 fh2 fh3 fh4 fh5 fh6 fh7 fh8 fh9 fh10 fh11 fh12 fh13 fh14 fh15 fh16 fh17 fs0 fs2 fs3 fs4 fs5 fs6 fs7 fs8 fs9 fs10 fs11 fs12 fs13 fs14 fs15 fs16 fs17 fs18 = shapeCast S1x4096x4 (blockOut (chunk fh0 2 (by decide)) fh1 fh2 fh3 fh4 fh5 fh6 fh7 fh8 fh9 fh10 fh11 fh12 fh13 fh14 fh15 fh16 fh17) shapeCasts_S4096x4_S1x4096x4 := by
  exact (stored_2 c fh0 fh1 fh2 fh3 fh4 fh5 fh6 fh7 fh8 fh9 fh10 fh11 fh12 fh13 fh14 fh15 fh16 fh17 fs0 fs1 fs2 fs3 fs4 fs5 fs6 fs7 fs8 fs9 fs10 fs11 fs12 fs13 fs14 fs15 fs16 fs17 fs18).trans (congrArg (fun t => shapeCast S1x4096x4 t shapeCasts_S4096x4_S1x4096x4)
    (blockOut_congr (load_chunk_2 c fh0 fs0) (load_v88 c fh1 fs2) (load_v95 c fh2 fs3) (load_v102 c fh3 fs4) (load_v117 c fh4 fs5) (load_v104 c fh5 fs6) (load_v118 c fh6 fs7) (load_v106 c fh7 fs8) (load_v119 c fh8 fs9) (load_v108 c fh9 fs10) (load_v120 c fh10 fs11) (load_v110 c fh11 fs12) (load_v97 c fh12 fs13) (load_v101 c fh13 fs14) (load_v121 c fh14 fs15) (load_v113 c fh15 fs16) (load_v122 c fh16 fs17) (load_v115 c fh17 fs18)))

/-- What chunk 2's transfer to the result carries. -/
theorem carried_2 [Named F] (c : Dev nD) (fh0 : BufOf (F := F) c main_arg0)
    (fh1 : BufOf (F := F) c main_v0)
    (fh2 : BufOf (F := F) c main_arg2)
    (fh3 : BufOf (F := F) c main_v1)
    (fh4 : BufOf (F := F) c main_arg4)
    (fh5 : BufOf (F := F) c main_v2)
    (fh6 : BufOf (F := F) c main_arg6)
    (fh7 : BufOf (F := F) c main_v3)
    (fh8 : BufOf (F := F) c main_arg8)
    (fh9 : BufOf (F := F) c main_v4)
    (fh10 : BufOf (F := F) c main_arg10)
    (fh11 : BufOf (F := F) c main_v5)
    (fh12 : BufOf (F := F) c main_arg12)
    (fh13 : BufOf (F := F) c main_v6)
    (fh14 : BufOf (F := F) c main_arg14)
    (fh15 : BufOf (F := F) c main_v7)
    (fh16 : BufOf (F := F) c main_arg16)
    (fh17 : BufOf (F := F) c main_v8) (fs0 : BufOf (F := F) c cc0_scratch0)
    (fs1 : BufOf (F := F) c cc0_scratch1)
    (fs2 : BufOf (F := F) c cc0_scratch2)
    (fs3 : BufOf (F := F) c cc0_scratch3)
    (fs4 : BufOf (F := F) c cc0_scratch4)
    (fs5 : BufOf (F := F) c cc0_scratch5)
    (fs6 : BufOf (F := F) c cc0_scratch6)
    (fs7 : BufOf (F := F) c cc0_scratch7)
    (fs8 : BufOf (F := F) c cc0_scratch8)
    (fs9 : BufOf (F := F) c cc0_scratch9)
    (fs10 : BufOf (F := F) c cc0_scratch10)
    (fs11 : BufOf (F := F) c cc0_scratch11)
    (fs12 : BufOf (F := F) c cc0_scratch12)
    (fs13 : BufOf (F := F) c cc0_scratch13)
    (fs14 : BufOf (F := F) c cc0_scratch14)
    (fs15 : BufOf (F := F) c cc0_scratch15)
    (fs16 : BufOf (F := F) c cc0_scratch16)
    (fs17 : BufOf (F := F) c cc0_scratch17)
    (fs18 : BufOf (F := F) c cc0_scratch18) :
    kernelRun0.sl.dma27 c fh0 fh1 fh2 fh3 fh4 fh5 fh6 fh7 fh8 fh9 fh10 fh11 fh12 fh13 fh14 fh15 fh16 fh17 fs0 fs1 fs2 fs3 fs4 fs5 fs6 fs7 fs8 fs9 fs10 fs11 fs12 fs13 fs14 fs15 fs16 fs17 fs18 = blockOut (chunk fh0 2 (by decide)) fh1 fh2 fh3 fh4 fh5 fh6 fh7 fh8 fh9 fh10 fh11 fh12 fh13 fh14 fh15 fh16 fh17 := by
  have e : kernelRun0.sl.dma27 c fh0 fh1 fh2 fh3 fh4 fh5 fh6 fh7 fh8 fh9 fh10 fh11 fh12 fh13 fh14 fh15 fh16 fh17 fs0 fs1 fs2 fs3 fs4 fs5 fs6 fs7 fs8 fs9 fs10 fs11 fs12 fs13 fs14 fs15 fs16 fs17 fs18
      = (((Memref.whole cc0_scratch1).slice (Rect.unit (s := S4x4096x4) ![2, 0, 0] S1x4096x4.size (slab_inb (k := 2) (by decide)))
          (fun _ => rfl)).squeeze S4096x4 squeezes_S1x4096x4_S4096x4).view.read (Elt F)
        ((Memref.whole cc0_scratch1).view.writes (Elt F) fs1
          (⟨Rect.unit (s := S4x4096x4) ![2, 0, 0] S1x4096x4.size (slab_inb (k := 2) (by decide)), kernelRun0.sl.v577 c fh0 fh1 fh2 fh3 fh4 fh5 fh6 fh7 fh8 fh9 fh10 fh11 fh12 fh13 fh14 fh15 fh16 fh17 fs0 fs2 fs3 fs4 fs5 fs6 fs7 fs8 fs9 fs10 fs11 fs12 fs13 fs14 fs15 fs16 fs17 fs18⟩
            :: (kernelRun0.sl.HS1_2 c fh0 fh1 fh2 fh3 fh4 fh5 fh6 fh7 fh8 fh9 fh10 fh11 fh12 fh13 fh14 fh15 fh16 fh17 fs0 fs2 fs3 fs4 fs5 fs6 fs7 fs8 fs9 fs10 fs11 fs12 fs13 fs14 fs15 fs16 fs17 fs18))) := by sl_kernel_rfl
  exact e.trans (read_stored_slab (Memref.whole cc0_scratch1) _ _ squeezes_S1x4096x4_S4096x4 fs1 _ _ _ _ (computed_2 c fh0 fh1 fh2 fh3 fh4 fh5 fh6 fh7 fh8 fh9 fh10 fh11 fh12 fh13 fh14 fh15 fh16 fh17 fs0 fs1 fs2 fs3 fs4 fs5 fs6 fs7 fs8 fs9 fs10 fs11 fs12 fs13 fs14 fs15 fs16 fs17 fs18))

/-- What chunk 3 stores, in the operands. -/
theorem computed_3 [Named F] (c : Dev nD) (fh0 : BufOf (F := F) c main_arg0)
    (fh1 : BufOf (F := F) c main_v0)
    (fh2 : BufOf (F := F) c main_arg2)
    (fh3 : BufOf (F := F) c main_v1)
    (fh4 : BufOf (F := F) c main_arg4)
    (fh5 : BufOf (F := F) c main_v2)
    (fh6 : BufOf (F := F) c main_arg6)
    (fh7 : BufOf (F := F) c main_v3)
    (fh8 : BufOf (F := F) c main_arg8)
    (fh9 : BufOf (F := F) c main_v4)
    (fh10 : BufOf (F := F) c main_arg10)
    (fh11 : BufOf (F := F) c main_v5)
    (fh12 : BufOf (F := F) c main_arg12)
    (fh13 : BufOf (F := F) c main_v6)
    (fh14 : BufOf (F := F) c main_arg14)
    (fh15 : BufOf (F := F) c main_v7)
    (fh16 : BufOf (F := F) c main_arg16)
    (fh17 : BufOf (F := F) c main_v8) (fs0 : BufOf (F := F) c cc0_scratch0)
    (fs1 : BufOf (F := F) c cc0_scratch1)
    (fs2 : BufOf (F := F) c cc0_scratch2)
    (fs3 : BufOf (F := F) c cc0_scratch3)
    (fs4 : BufOf (F := F) c cc0_scratch4)
    (fs5 : BufOf (F := F) c cc0_scratch5)
    (fs6 : BufOf (F := F) c cc0_scratch6)
    (fs7 : BufOf (F := F) c cc0_scratch7)
    (fs8 : BufOf (F := F) c cc0_scratch8)
    (fs9 : BufOf (F := F) c cc0_scratch9)
    (fs10 : BufOf (F := F) c cc0_scratch10)
    (fs11 : BufOf (F := F) c cc0_scratch11)
    (fs12 : BufOf (F := F) c cc0_scratch12)
    (fs13 : BufOf (F := F) c cc0_scratch13)
    (fs14 : BufOf (F := F) c cc0_scratch14)
    (fs15 : BufOf (F := F) c cc0_scratch15)
    (fs16 : BufOf (F := F) c cc0_scratch16)
    (fs17 : BufOf (F := F) c cc0_scratch17)
    (fs18 : BufOf (F := F) c cc0_scratch18) :
    kernelRun0.sl.v730 c fh0 fh1 fh2 fh3 fh4 fh5 fh6 fh7 fh8 fh9 fh10 fh11 fh12 fh13 fh14 fh15 fh16 fh17 fs0 fs2 fs3 fs4 fs5 fs6 fs7 fs8 fs9 fs10 fs11 fs12 fs13 fs14 fs15 fs16 fs17 fs18 = shapeCast S1x4096x4 (blockOut (chunk fh0 3 (by decide)) fh1 fh2 fh3 fh4 fh5 fh6 fh7 fh8 fh9 fh10 fh11 fh12 fh13 fh14 fh15 fh16 fh17) shapeCasts_S4096x4_S1x4096x4 := by
  exact (stored_3 c fh0 fh1 fh2 fh3 fh4 fh5 fh6 fh7 fh8 fh9 fh10 fh11 fh12 fh13 fh14 fh15 fh16 fh17 fs0 fs1 fs2 fs3 fs4 fs5 fs6 fs7 fs8 fs9 fs10 fs11 fs12 fs13 fs14 fs15 fs16 fs17 fs18).trans (congrArg (fun t => shapeCast S1x4096x4 t shapeCasts_S4096x4_S1x4096x4)
    (blockOut_congr (load_chunk_3 c fh0 fs0) (load_v88 c fh1 fs2) (load_v95 c fh2 fs3) (load_v102 c fh3 fs4) (load_v117 c fh4 fs5) (load_v104 c fh5 fs6) (load_v118 c fh6 fs7) (load_v106 c fh7 fs8) (load_v119 c fh8 fs9) (load_v108 c fh9 fs10) (load_v120 c fh10 fs11) (load_v110 c fh11 fs12) (load_v97 c fh12 fs13) (load_v101 c fh13 fs14) (load_v121 c fh14 fs15) (load_v113 c fh15 fs16) (load_v122 c fh16 fs17) (load_v115 c fh17 fs18)))

/-- What chunk 3's transfer to the result carries. -/
theorem carried_3 [Named F] (c : Dev nD) (fh0 : BufOf (F := F) c main_arg0)
    (fh1 : BufOf (F := F) c main_v0)
    (fh2 : BufOf (F := F) c main_arg2)
    (fh3 : BufOf (F := F) c main_v1)
    (fh4 : BufOf (F := F) c main_arg4)
    (fh5 : BufOf (F := F) c main_v2)
    (fh6 : BufOf (F := F) c main_arg6)
    (fh7 : BufOf (F := F) c main_v3)
    (fh8 : BufOf (F := F) c main_arg8)
    (fh9 : BufOf (F := F) c main_v4)
    (fh10 : BufOf (F := F) c main_arg10)
    (fh11 : BufOf (F := F) c main_v5)
    (fh12 : BufOf (F := F) c main_arg12)
    (fh13 : BufOf (F := F) c main_v6)
    (fh14 : BufOf (F := F) c main_arg14)
    (fh15 : BufOf (F := F) c main_v7)
    (fh16 : BufOf (F := F) c main_arg16)
    (fh17 : BufOf (F := F) c main_v8) (fs0 : BufOf (F := F) c cc0_scratch0)
    (fs1 : BufOf (F := F) c cc0_scratch1)
    (fs2 : BufOf (F := F) c cc0_scratch2)
    (fs3 : BufOf (F := F) c cc0_scratch3)
    (fs4 : BufOf (F := F) c cc0_scratch4)
    (fs5 : BufOf (F := F) c cc0_scratch5)
    (fs6 : BufOf (F := F) c cc0_scratch6)
    (fs7 : BufOf (F := F) c cc0_scratch7)
    (fs8 : BufOf (F := F) c cc0_scratch8)
    (fs9 : BufOf (F := F) c cc0_scratch9)
    (fs10 : BufOf (F := F) c cc0_scratch10)
    (fs11 : BufOf (F := F) c cc0_scratch11)
    (fs12 : BufOf (F := F) c cc0_scratch12)
    (fs13 : BufOf (F := F) c cc0_scratch13)
    (fs14 : BufOf (F := F) c cc0_scratch14)
    (fs15 : BufOf (F := F) c cc0_scratch15)
    (fs16 : BufOf (F := F) c cc0_scratch16)
    (fs17 : BufOf (F := F) c cc0_scratch17)
    (fs18 : BufOf (F := F) c cc0_scratch18) :
    kernelRun0.sl.dma30 c fh0 fh1 fh2 fh3 fh4 fh5 fh6 fh7 fh8 fh9 fh10 fh11 fh12 fh13 fh14 fh15 fh16 fh17 fs0 fs1 fs2 fs3 fs4 fs5 fs6 fs7 fs8 fs9 fs10 fs11 fs12 fs13 fs14 fs15 fs16 fs17 fs18 = blockOut (chunk fh0 3 (by decide)) fh1 fh2 fh3 fh4 fh5 fh6 fh7 fh8 fh9 fh10 fh11 fh12 fh13 fh14 fh15 fh16 fh17 := by
  have e : kernelRun0.sl.dma30 c fh0 fh1 fh2 fh3 fh4 fh5 fh6 fh7 fh8 fh9 fh10 fh11 fh12 fh13 fh14 fh15 fh16 fh17 fs0 fs1 fs2 fs3 fs4 fs5 fs6 fs7 fs8 fs9 fs10 fs11 fs12 fs13 fs14 fs15 fs16 fs17 fs18
      = (((Memref.whole cc0_scratch1).slice (Rect.unit (s := S4x4096x4) ![3, 0, 0] S1x4096x4.size (slab_inb (k := 3) (by decide)))
          (fun _ => rfl)).squeeze S4096x4 squeezes_S1x4096x4_S4096x4).view.read (Elt F)
        ((Memref.whole cc0_scratch1).view.writes (Elt F) fs1
          (⟨Rect.unit (s := S4x4096x4) ![3, 0, 0] S1x4096x4.size (slab_inb (k := 3) (by decide)), kernelRun0.sl.v730 c fh0 fh1 fh2 fh3 fh4 fh5 fh6 fh7 fh8 fh9 fh10 fh11 fh12 fh13 fh14 fh15 fh16 fh17 fs0 fs2 fs3 fs4 fs5 fs6 fs7 fs8 fs9 fs10 fs11 fs12 fs13 fs14 fs15 fs16 fs17 fs18⟩
            :: (kernelRun0.sl.HS1_3 c fh0 fh1 fh2 fh3 fh4 fh5 fh6 fh7 fh8 fh9 fh10 fh11 fh12 fh13 fh14 fh15 fh16 fh17 fs0 fs2 fs3 fs4 fs5 fs6 fs7 fs8 fs9 fs10 fs11 fs12 fs13 fs14 fs15 fs16 fs17 fs18))) := by sl_kernel_rfl
  exact e.trans (read_stored_slab (Memref.whole cc0_scratch1) _ _ squeezes_S1x4096x4_S4096x4 fs1 _ _ _ _ (computed_3 c fh0 fh1 fh2 fh3 fh4 fh5 fh6 fh7 fh8 fh9 fh10 fh11 fh12 fh13 fh14 fh15 fh16 fh17 fs0 fs1 fs2 fs3 fs4 fs5 fs6 fs7 fs8 fs9 fs10 fs11 fs12 fs13 fs14 fs15 fs16 fs17 fs18))

/-- The result, row by row, on the rows of chunk `k`. -/
theorem piece_result [Named F] (c : Dev nD) (fh0 : BufOf (F := F) c main_arg0)
    (fh1 : BufOf (F := F) c main_v0)
    (fh2 : BufOf (F := F) c main_arg2)
    (fh3 : BufOf (F := F) c main_v1)
    (fh4 : BufOf (F := F) c main_arg4)
    (fh5 : BufOf (F := F) c main_v2)
    (fh6 : BufOf (F := F) c main_arg6)
    (fh7 : BufOf (F := F) c main_v3)
    (fh8 : BufOf (F := F) c main_arg8)
    (fh9 : BufOf (F := F) c main_v4)
    (fh10 : BufOf (F := F) c main_arg10)
    (fh11 : BufOf (F := F) c main_v5)
    (fh12 : BufOf (F := F) c main_arg12)
    (fh13 : BufOf (F := F) c main_v6)
    (fh14 : BufOf (F := F) c main_arg14)
    (fh15 : BufOf (F := F) c main_v7)
    (fh16 : BufOf (F := F) c main_arg16)
    (fh17 : BufOf (F := F) c main_v8) {k : ℕ} (hk : k < 4) (x : S4096x4.Idx) :
    blockOut (chunk fh0 k hk) fh1 fh2 fh3 fh4 fh5 fh6 fh7 fh8 fh9 fh10 fh11 fh12 fh13 fh14 fh15 fh16 fh17 x
      = result c fh0 fh1 fh2 fh3 fh4 fh5 fh6 fh7 fh8 fh9 fh10 fh11 fh12 fh13 fh14 fh15 fh16 fh17 ((Rect.unit (s := S16384x4) ![4096 * k, 0] S4096x4.size (rows_inb hk)).emb x) :=
  (result_chunk c fh0 fh1 fh2 fh3 fh4 fh5 fh6 fh7 fh8 fh9 fh10 fh11 fh12 fh13 fh14 fh15 fh16 fh17 k hk _ x (by show 4096 * k + 1 * (x 0).val = _; omega) (by show 0 + 1 * (x 1).val = _; omega)).symm

/-- The run's contents of the result buffer: four stores over what it held. -/
theorem kernelRun0_contents [Named F] (c : Dev nD) (fh0 : BufOf (F := F) c main_arg0)
    (fh1 : BufOf (F := F) c main_v0)
    (fh2 : BufOf (F := F) c main_arg2)
    (fh3 : BufOf (F := F) c main_v1)
    (fh4 : BufOf (F := F) c main_arg4)
    (fh5 : BufOf (F := F) c main_v2)
    (fh6 : BufOf (F := F) c main_arg6)
    (fh7 : BufOf (F := F) c main_v3)
    (fh8 : BufOf (F := F) c main_arg8)
    (fh9 : BufOf (F := F) c main_v4)
    (fh10 : BufOf (F := F) c main_arg10)
    (fh11 : BufOf (F := F) c main_v5)
    (fh12 : BufOf (F := F) c main_arg12)
    (fh13 : BufOf (F := F) c main_v6)
    (fh14 : BufOf (F := F) c main_arg14)
    (fh15 : BufOf (F := F) c main_v7)
    (fh16 : BufOf (F := F) c main_arg16)
    (fh17 : BufOf (F := F) c main_v8)
    (f9 : BufOf (F := F) c main_v9) (fs0 : BufOf (F := F) c cc0_scratch0)
    (fs1 : BufOf (F := F) c cc0_scratch1)
    (fs2 : BufOf (F := F) c cc0_scratch2)
    (fs3 : BufOf (F := F) c cc0_scratch3)
    (fs4 : BufOf (F := F) c cc0_scratch4)
    (fs5 : BufOf (F := F) c cc0_scratch5)
    (fs6 : BufOf (F := F) c cc0_scratch6)
    (fs7 : BufOf (F := F) c cc0_scratch7)
    (fs8 : BufOf (F := F) c cc0_scratch8)
    (fs9 : BufOf (F := F) c cc0_scratch9)
    (fs10 : BufOf (F := F) c cc0_scratch10)
    (fs11 : BufOf (F := F) c cc0_scratch11)
    (fs12 : BufOf (F := F) c cc0_scratch12)
    (fs13 : BufOf (F := F) c cc0_scratch13)
    (fs14 : BufOf (F := F) c cc0_scratch14)
    (fs15 : BufOf (F := F) c cc0_scratch15)
    (fs16 : BufOf (F := F) c cc0_scratch16)
    (fs17 : BufOf (F := F) c cc0_scratch17)
    (fs18 : BufOf (F := F) c cc0_scratch18) :
    (kernelRun0 c fh0 fh1 fh2 fh3 fh4 fh5 fh6 fh7 fh8 fh9 fh10 fh11 fh12 fh13 fh14 fh15 fh16 fh17 f9 fs0 fs1 fs2 fs3 fs4 fs5 fs6 fs7 fs8 fs9 fs10 fs11 fs12 fs13 fs14 fs15 fs16 fs17 fs18).1 = (Memref.whole main_v9).view.writes (Elt F) f9
    [⟨Rect.unit (s := S16384x4) ![4096 * 3, 0] S4096x4.size (rows_inb (k := 3) (by decide)), kernelRun0.sl.dma30 c fh0 fh1 fh2 fh3 fh4 fh5 fh6 fh7 fh8 fh9 fh10 fh11 fh12 fh13 fh14 fh15 fh16 fh17 fs0 fs1 fs2 fs3 fs4 fs5 fs6 fs7 fs8 fs9 fs10 fs11 fs12 fs13 fs14 fs15 fs16 fs17 fs18⟩,
     ⟨Rect.unit (s := S16384x4) ![4096 * 2, 0] S4096x4.size (rows_inb (k := 2) (by decide)), kernelRun0.sl.dma27 c fh0 fh1 fh2 fh3 fh4 fh5 fh6 fh7 fh8 fh9 fh10 fh11 fh12 fh13 fh14 fh15 fh16 fh17 fs0 fs1 fs2 fs3 fs4 fs5 fs6 fs7 fs8 fs9 fs10 fs11 fs12 fs13 fs14 fs15 fs16 fs17 fs18⟩,
     ⟨Rect.unit (s := S16384x4) ![4096 * 1, 0] S4096x4.size (rows_inb (k := 1) (by decide)), kernelRun0.sl.dma24 c fh0 fh1 fh2 fh3 fh4 fh5 fh6 fh7 fh8 fh9 fh10 fh11 fh12 fh13 fh14 fh15 fh16 fh17 fs0 fs1 fs2 fs3 fs4 fs5 fs6 fs7 fs8 fs9 fs10 fs11 fs12 fs13 fs14 fs15 fs16 fs17 fs18⟩,
     ⟨Rect.unit (s := S16384x4) ![4096 * 0, 0] S4096x4.size (rows_inb (k := 0) (by decide)), kernelRun0.sl.dma21 c fh0 fh1 fh2 fh3 fh4 fh5 fh6 fh7 fh8 fh9 fh10 fh11 fh12 fh13 fh14 fh15 fh16 fh17 fs0 fs1 fs2 fs3 fs4 fs5 fs6 fs7 fs8 fs9 fs10 fs11 fs12 fs13 fs14 fs15 fs16 fs17 fs18⟩] := by
  sl_kernel_rfl

/-- A row of the result lies in its chunk's rectangle. -/
theorem mem_rows (i : S16384x4.Idx) {k : ℕ} (hk : k < 4) (h : (i 0).val / 4096 = k) :
    i ∈ (Rect.unit (s := S16384x4) ![4096 * k, 0] S4096x4.size (rows_inb hk)).set := by
  rw [Rect.mem_set_unit]
  intro a
  match a with
  | ⟨0, _⟩ => show 4096 * k ≤ (i 0).val ∧ (i 0).val < 4096 * k + 4096; omega
  | ⟨1, _⟩ => have h : (i 1).val < 4 := (i 1).isLt; show 0 ≤ (i 1).val ∧ (i 1).val < 0 + 4; omega

/-- Four stores of whole chunks that agree with `G` leave `G`. -/
theorem four_chunks (G : S16384x4.Idx → Elt F .f32) (v : View sig .tc .hbm S16384x4 .f32) (f : v.ty.Contents (Elt F))
    (p0 p1 p2 p3 : S4096x4.Idx → Elt F .f32)
    (h0 : ∀ x : S4096x4.Idx, p0 x = G ((Rect.unit (s := S16384x4) ![4096 * 0, 0] S4096x4.size (rows_inb (k := 0) (by decide))).emb x))
    (h1 : ∀ x : S4096x4.Idx, p1 x = G ((Rect.unit (s := S16384x4) ![4096 * 1, 0] S4096x4.size (rows_inb (k := 1) (by decide))).emb x))
    (h2 : ∀ x : S4096x4.Idx, p2 x = G ((Rect.unit (s := S16384x4) ![4096 * 2, 0] S4096x4.size (rows_inb (k := 2) (by decide))).emb x))
    (h3 : ∀ x : S4096x4.Idx, p3 x = G ((Rect.unit (s := S16384x4) ![4096 * 3, 0] S4096x4.size (rows_inb (k := 3) (by decide))).emb x)) :
    v.read (Elt F) (v.writes (Elt F) f
      [⟨Rect.unit (s := S16384x4) ![4096 * 3, 0] S4096x4.size (rows_inb (k := 3) (by decide)), p3⟩,
       ⟨Rect.unit (s := S16384x4) ![4096 * 2, 0] S4096x4.size (rows_inb (k := 2) (by decide)), p2⟩,
       ⟨Rect.unit (s := S16384x4) ![4096 * 1, 0] S4096x4.size (rows_inb (k := 1) (by decide)), p1⟩,
       ⟨Rect.unit (s := S16384x4) ![4096 * 0, 0] S4096x4.size (rows_inb (k := 0) (by decide)), p0⟩]) = G := by
  funext i
  refine View.read_writes_apply_of_pieces v f G _ ?_ i ?_
  · intro p hp
    simp only [List.mem_cons, List.not_mem_nil, or_false] at hp
    rcases hp with rfl | rfl | rfl | rfl
    · exact h3
    · exact h2
    · exact h1
    · exact h0
  · have h : (i 0).val < 16384 := (i 0).isLt
    have h4 : (i 0).val / 4096 = 3 ∨ (i 0).val / 4096 = 2 ∨ (i 0).val / 4096 = 1 ∨ (i 0).val / 4096 = 0 := by omega
    rcases h4 with h | h | h | h
    · exact ⟨_, List.mem_cons_self, mem_rows i (by decide) h⟩
    · exact ⟨_, List.mem_cons_of_mem _ List.mem_cons_self, mem_rows i (by decide) h⟩
    · exact ⟨_, List.mem_cons_of_mem _ (List.mem_cons_of_mem _ List.mem_cons_self), mem_rows i (by decide) h⟩
    · exact ⟨_, List.mem_cons_of_mem _ (List.mem_cons_of_mem _ (List.mem_cons_of_mem _ List.mem_cons_self)), mem_rows i (by decide) h⟩

/-- The result buffer read whole is its contents. -/
theorem read_result (f : (Memref.whole main_v9).view.ty.Contents (Elt F)) :
    View.read (Elt F) (Memref.whole main_v9).view f = f := rfl

/-- The run leaves `result` in the result buffer, whatever the buffer and the scratch held before. -/
theorem kernelRun0_result [Named F] (c : Dev nD) (fh0 : BufOf (F := F) c main_arg0)
    (fh1 : BufOf (F := F) c main_v0)
    (fh2 : BufOf (F := F) c main_arg2)
    (fh3 : BufOf (F := F) c main_v1)
    (fh4 : BufOf (F := F) c main_arg4)
    (fh5 : BufOf (F := F) c main_v2)
    (fh6 : BufOf (F := F) c main_arg6)
    (fh7 : BufOf (F := F) c main_v3)
    (fh8 : BufOf (F := F) c main_arg8)
    (fh9 : BufOf (F := F) c main_v4)
    (fh10 : BufOf (F := F) c main_arg10)
    (fh11 : BufOf (F := F) c main_v5)
    (fh12 : BufOf (F := F) c main_arg12)
    (fh13 : BufOf (F := F) c main_v6)
    (fh14 : BufOf (F := F) c main_arg14)
    (fh15 : BufOf (F := F) c main_v7)
    (fh16 : BufOf (F := F) c main_arg16)
    (fh17 : BufOf (F := F) c main_v8)
    (f9 : BufOf (F := F) c main_v9) (fs0 : BufOf (F := F) c cc0_scratch0)
    (fs1 : BufOf (F := F) c cc0_scratch1)
    (fs2 : BufOf (F := F) c cc0_scratch2)
    (fs3 : BufOf (F := F) c cc0_scratch3)
    (fs4 : BufOf (F := F) c cc0_scratch4)
    (fs5 : BufOf (F := F) c cc0_scratch5)
    (fs6 : BufOf (F := F) c cc0_scratch6)
    (fs7 : BufOf (F := F) c cc0_scratch7)
    (fs8 : BufOf (F := F) c cc0_scratch8)
    (fs9 : BufOf (F := F) c cc0_scratch9)
    (fs10 : BufOf (F := F) c cc0_scratch10)
    (fs11 : BufOf (F := F) c cc0_scratch11)
    (fs12 : BufOf (F := F) c cc0_scratch12)
    (fs13 : BufOf (F := F) c cc0_scratch13)
    (fs14 : BufOf (F := F) c cc0_scratch14)
    (fs15 : BufOf (F := F) c cc0_scratch15)
    (fs16 : BufOf (F := F) c cc0_scratch16)
    (fs17 : BufOf (F := F) c cc0_scratch17)
    (fs18 : BufOf (F := F) c cc0_scratch18) :
    (kernelRun0 c fh0 fh1 fh2 fh3 fh4 fh5 fh6 fh7 fh8 fh9 fh10 fh11 fh12 fh13 fh14 fh15 fh16 fh17 f9 fs0 fs1 fs2 fs3 fs4 fs5 fs6 fs7 fs8 fs9 fs10 fs11 fs12 fs13 fs14 fs15 fs16 fs17 fs18).1 = result c fh0 fh1 fh2 fh3 fh4 fh5 fh6 fh7 fh8 fh9 fh10 fh11 fh12 fh13 fh14 fh15 fh16 fh17 := by
  exact (kernelRun0_contents c fh0 fh1 fh2 fh3 fh4 fh5 fh6 fh7 fh8 fh9 fh10 fh11 fh12 fh13 fh14 fh15 fh16 fh17 f9 fs0 fs1 fs2 fs3 fs4 fs5 fs6 fs7 fs8 fs9 fs10 fs11 fs12 fs13 fs14 fs15 fs16 fs17 fs18).trans ((read_result _).symm.trans (four_chunks (result c fh0 fh1 fh2 fh3 fh4 fh5 fh6 fh7 fh8 fh9 fh10 fh11 fh12 fh13 fh14 fh15 fh16 fh17) (Memref.whole main_v9).view f9 _ _ _ _
    (fun x => (congrFun (carried_0 c fh0 fh1 fh2 fh3 fh4 fh5 fh6 fh7 fh8 fh9 fh10 fh11 fh12 fh13 fh14 fh15 fh16 fh17 fs0 fs1 fs2 fs3 fs4 fs5 fs6 fs7 fs8 fs9 fs10 fs11 fs12 fs13 fs14 fs15 fs16 fs17 fs18) x).trans (piece_result c fh0 fh1 fh2 fh3 fh4 fh5 fh6 fh7 fh8 fh9 fh10 fh11 fh12 fh13 fh14 fh15 fh16 fh17 (k := 0) (by decide) x))
    (fun x => (congrFun (carried_1 c fh0 fh1 fh2 fh3 fh4 fh5 fh6 fh7 fh8 fh9 fh10 fh11 fh12 fh13 fh14 fh15 fh16 fh17 fs0 fs1 fs2 fs3 fs4 fs5 fs6 fs7 fs8 fs9 fs10 fs11 fs12 fs13 fs14 fs15 fs16 fs17 fs18) x).trans (piece_result c fh0 fh1 fh2 fh3 fh4 fh5 fh6 fh7 fh8 fh9 fh10 fh11 fh12 fh13 fh14 fh15 fh16 fh17 (k := 1) (by decide) x))
    (fun x => (congrFun (carried_2 c fh0 fh1 fh2 fh3 fh4 fh5 fh6 fh7 fh8 fh9 fh10 fh11 fh12 fh13 fh14 fh15 fh16 fh17 fs0 fs1 fs2 fs3 fs4 fs5 fs6 fs7 fs8 fs9 fs10 fs11 fs12 fs13 fs14 fs15 fs16 fs17 fs18) x).trans (piece_result c fh0 fh1 fh2 fh3 fh4 fh5 fh6 fh7 fh8 fh9 fh10 fh11 fh12 fh13 fh14 fh15 fh16 fh17 (k := 2) (by decide) x))
    (fun x => (congrFun (carried_3 c fh0 fh1 fh2 fh3 fh4 fh5 fh6 fh7 fh8 fh9 fh10 fh11 fh12 fh13 fh14 fh15 fh16 fh17 fs0 fs1 fs2 fs3 fs4 fs5 fs6 fs7 fs8 fs9 fs10 fs11 fs12 fs13 fs14 fs15 fs16 fs17 fs18) x).trans (piece_result c fh0 fh1 fh2 fh3 fh4 fh5 fh6 fh7 fh8 fh9 fh10 fh11 fh12 fh13 fh14 fh15 fh16 fh17 (k := 3) (by decide) x))))

end Cert.KernelIdeal.Hand
-- ==== Proof.KernelIdealFrame.lean ====
module

public import proofs.«01_k».proof.Proof.KernelIdealResult

/-! The idealized kernel's launch: it ends, keeps its arguments, leaves every semaphore at zero and its result is the body's. -/

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

/-- The proof's resources: the pipeline library's beside the transfers' counters. -/
local notation "𝕄" => MT nD τ sig Unit (Elt F) ℕ (Pipeline.UD sig nD τ) ℕ

variable (m : (ℓ : Loc nD τ sig) → Buf (Elt F) ℓ) (ρ : Dev nD → PrngReg)

/-- The one unscoped buffer the body writes: the result. -/
def R0 : Finset (Ref sig .tc) := {main_v9}
/-- The operands the body's transfers read. -/
def H0 : Finset (Ref sig .tc) := {main_arg0, main_v0, main_arg2, main_v1, main_arg4, main_v2, main_arg6, main_v3, main_arg8, main_v4, main_arg10, main_v5, main_arg12, main_v6, main_arg14, main_v7, main_arg16, main_v8}
/-- The operands are buffers of the launch. -/
theorem H0_sub : H0 ⊆ Pipeline.restRefs sig cfg0.spec := by decide
/-- The result is a buffer of the launch and no operand. -/
theorem R0_sub : R0 ⊆ Pipeline.restRefs sig cfg0.spec \ H0 := by decide
/-- The body's transfer semaphores: four for the samples, four for the result, seventeen for the weights. -/
abbrev osem0 : Fin 25 → SemLoc sig := fun j => SemLoc.dma ⟨j.1, by have := j.2; exact this⟩
/-- They are semaphores of the body alone. -/
theorem ownSemFacts0 : Pipeline.OwnSemFacts cfg0.spec osem0 := by decide

/-- The body's semaphores at zero, one by one. -/
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 0) 0 ∗ semVal ((c : Thread nD τ), SemLoc.dma 1) 0 ∗ semVal ((c : Thread nD τ), SemLoc.dma 2) 0 ∗ semVal ((c : Thread nD τ), SemLoc.dma 3) 0 ∗ semVal ((c : Thread nD τ), SemLoc.dma 4) 0 ∗ semVal ((c : Thread nD τ), SemLoc.dma 5) 0 ∗ semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0) := by
  rw [Pipeline.ownSems0_eq_of_list c osem0 [0, 1, 2, 3, 4, 5, 6, 7, 8, 9, 10, 11, 12, 13, 14, 15, 16, 17, 18, 19, 20, 21, 22, 23, 24] (by decide) (by decide)]; rfl
/-- The operands at their contents, one by one. -/
theorem hbmPts0_eq (c : Dev nD) :
    (bigSep H0 (fun b => ((c : Thread nD τ).loc b) ↦{fullShare} V m c b) : sProp 𝕄)
      = iprop(pt c main_arg0 (V m c main_arg0) ∗ pt c main_v0 (V m c main_v0) ∗ pt c main_arg2 (V m c main_arg2) ∗ pt c main_v1 (V m c main_v1) ∗ pt c main_arg4 (V m c main_arg4) ∗ pt c main_v2 (V m c main_v2) ∗ pt c main_arg6 (V m c main_arg6) ∗ pt c main_v3 (V m c main_v3) ∗ pt c main_arg8 (V m c main_arg8) ∗ pt c main_v4 (V m c main_v4) ∗ pt c main_arg10 (V m c main_arg10) ∗ pt c main_v5 (V m c main_v5) ∗ pt c main_arg12 (V m c main_arg12) ∗ pt c main_v6 (V m c main_v6) ∗ pt c main_arg14 (V m c main_arg14) ∗ pt c main_v7 (V m c main_v7) ∗ pt c main_arg16 (V m c main_arg16) ∗ pt c main_v8 (V m c main_v8)) := by
  rw [BI.bigSep_eq_bigSepL_of_eq [main_arg0, main_v0, main_arg2, main_v1, main_arg4, main_v2, main_arg6, main_v3, main_arg8, main_v4, main_arg10, main_v5, main_arg12, main_v6, main_arg14, main_v7, main_arg16, main_v8] (by decide) (by decide)]; rfl

/-- The unscoped buffers at the region's end: the result at `result`, the others as they were. -/
def G (c : Dev nD) (b : Ref sig .tc) : Buf (Elt F) ((c : Thread nD τ).loc b) :=
  Function.update (V m c) main_v9 (result c (V m c main_arg0) (V m c main_v0) (V m c main_arg2) (V m c main_v1) (V m c main_arg4) (V m c main_v2) (V m c main_arg6) (V m c main_v3) (V m c main_arg8) (V m c main_v4) (V m c main_arg10) (V m c main_v5) (V m c main_arg12) (V m c main_v6) (V m c main_arg14) (V m c main_v7) (V m c main_arg16) (V m c main_v8)) b
/-- The result buffer at the end. -/
theorem G_main_v9 (c : Dev nD) : G m c main_v9 = result c (V m c main_arg0) (V m c main_v0) (V m c main_arg2) (V m c main_v1) (V m c main_arg4) (V m c main_v2) (V m c main_arg6) (V m c main_v3) (V m c main_arg8) (V m c main_v4) (V m c main_arg10) (V m c main_v5) (V m c main_arg12) (V m c main_v6) (V m c main_arg14) (V m c main_v7) (V m c main_arg16) (V m c main_v8) :=
  Function.update_self ..
/-- The result buffer held at given contents. -/
theorem routed0_eq (c : Dev nD) (X : (b : Ref sig .tc) → Buf (Elt F) ((c : Thread nD τ).loc b)) :
    (Pipeline.routed R0 c X : sProp 𝕄) = iprop(pt c main_v9 (X main_v9)) := by
  unfold Pipeline.routed; rw [BI.bigSep_eq_bigSepL_of_eq [main_v9] (by decide) (by decide)]; rfl

set_option maxHeartbeats 2000000 in
/-- What the body holds beside the result's contents `X`, buffer by buffer. -/
theorem Phi0_eq (c : Dev nD) (X : (c : Dev nD) → (b : Ref sig .tc) → Buf (Elt F) ((c : Thread nD τ).loc b)) :
    (Pipeline.ΦDRG osem0 cfg0.spec H0 R0 (V m) X c : sProp 𝕄)
      = iprop(iprop((∃ f, pt c cc0_scratch0 f) ∗ (∃ f, pt c cc0_scratch1 f) ∗ (∃ f, pt c cc0_scratch2 f) ∗ (∃ f, pt c cc0_scratch3 f) ∗ (∃ f, pt c cc0_scratch4 f) ∗ (∃ f, pt c cc0_scratch5 f) ∗ (∃ f, pt c cc0_scratch6 f) ∗ (∃ f, pt c cc0_scratch7 f) ∗ (∃ f, pt c cc0_scratch8 f) ∗ (∃ f, pt c cc0_scratch9 f) ∗ (∃ f, pt c cc0_scratch10 f) ∗ (∃ f, pt c cc0_scratch11 f) ∗ (∃ f, pt c cc0_scratch12 f) ∗ (∃ f, pt c cc0_scratch13 f) ∗ (∃ f, pt c cc0_scratch14 f) ∗ (∃ f, pt c cc0_scratch15 f) ∗ (∃ f, pt c cc0_scratch16 f) ∗ (∃ f, pt c cc0_scratch17 f) ∗ (∃ f, pt c cc0_scratch18 f)) ∗ (∃ r, prngReg c r) ∗ iprop(semVal ((c : Thread nD τ), SemLoc.dma 0) 0 ∗ semVal ((c : Thread nD τ), SemLoc.dma 1) 0 ∗ semVal ((c : Thread nD τ), SemLoc.dma 2) 0 ∗ semVal ((c : Thread nD τ), SemLoc.dma 3) 0 ∗ semVal ((c : Thread nD τ), SemLoc.dma 4) 0 ∗ semVal ((c : Thread nD τ), SemLoc.dma 5) 0 ∗ semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0) ∗ iprop(pt c main_arg0 (V m c main_arg0) ∗ pt c main_v0 (V m c main_v0) ∗ pt c main_arg2 (V m c main_arg2) ∗ pt c main_v1 (V m c main_v1) ∗ pt c main_arg4 (V m c main_arg4) ∗ pt c main_v2 (V m c main_v2) ∗ pt c main_arg6 (V m c main_arg6) ∗ pt c main_v3 (V m c main_v3) ∗ pt c main_arg8 (V m c main_arg8) ∗ pt c main_v4 (V m c main_v4) ∗ pt c main_arg10 (V m c main_arg10) ∗ pt c main_v5 (V m c main_v5) ∗ pt c main_arg12 (V m c main_arg12) ∗ pt c main_v6 (V m c main_v6) ∗ pt c main_arg14 (V m c main_arg14) ∗ pt c main_v7 (V m c main_v7) ∗ pt c main_arg16 (V m c main_arg16) ∗ pt c main_v8 (V m c main_v8)) ∗ pt c main_v9 (X c main_v9)) := by
  rw [Pipeline.ΦDRG_eq, scopedRest0_eq, ownSems00_eq, hbmPts0_eq, routed0_eq]

/-- The proof data: the launch's contents, full shares, nothing owed, and what the body holds between. -/
def dats (_ : Fin 1) (c : Dev nD) : Dat τ (Elt F) Unit ℕ (Pipeline.UD sig nD τ) ℕ cfg0 c where
  A w := V m c (Pipeline.arrRef cfg0.spec w)
  after w t := w.elim0
  Φ p := if p = 0 then Pipeline.ΦDRG osem0 cfg0.spec H0 R0 (V m) (V m) c else Pipeline.ΦDRG osem0 cfg0.spec H0 R0 (V m) (G m) c
  q _ := fullShare
  owed _ := 0

/-- Before the body: the result buffer as the region finds it. -/
theorem phi_pre (c : Dev nD) (t : Fin cfg0.N) : (dats (F := F) m 0 c).Φ t.castSucc = Pipeline.ΦDRG osem0 cfg0.spec H0 R0 (V m) (V m) c := by
  rw [fin_N0 t]; exact if_pos (t := Pipeline.ΦDRG osem0 cfg0.spec H0 R0 (V m) (V m) c) (e := Pipeline.ΦDRG osem0 cfg0.spec H0 R0 (V m) (G m) c)
    (show (t0_0 : Fin cfg0.N).castSucc = 0 from by decide)
/-- After the body: the result buffer at `result`. -/
theorem phi_post (c : Dev nD) (t : Fin cfg0.N) : (dats (F := F) m 0 c).Φ t.succ = Pipeline.ΦDRG osem0 cfg0.spec H0 R0 (V m) (G m) c := by
  rw [fin_N0 t]; exact if_neg (t := Pipeline.ΦDRG osem0 cfg0.spec H0 R0 (V m) (V m) c) (e := Pipeline.ΦDRG osem0 cfg0.spec H0 R0 (V m) (G m) c)
    (show ¬ (t0_0 : Fin cfg0.N).succ = 0 from by decide)

set_option maxHeartbeats 1000000 in
/-- The body's triple at the launch: from what the body holds at entry, it runs to what it holds at exit. -/
theorem sound_body (c : Dev nD) (t : Fin cfg0.N) :
    iprop((dats m 0 c).Φ t.castSucc ∗ (dats m 0 c).owesAt () t.castSucc)
      ⊢ wp frame (wpE (defs₀ (F := F)) Variants.none c none) Set.univ (bodyAt0 t)
          (fun _ => iprop((dats m 0 c).Φ t.succ ∗ (dats m 0 c).owesAt () t.succ)) := by
  rw [phi_pre, phi_post, Phi0_eq, Phi0_eq, G_main_v9]
  unfold Dat.owesAt Pipeline.owesWithin bodyAt0
  rw [show (dats m 0 c).owed t.castSucc = 0 from rfl, show (dats m 0 c).owed t.succ = 0 from rfl]
  iintro ⟨⟨⟨⟨%fs0, HS0⟩, ⟨%fs1, HS1⟩, ⟨%fs2, HS2⟩, ⟨%fs3, HS3⟩, ⟨%fs4, HS4⟩, ⟨%fs5, HS5⟩, ⟨%fs6, HS6⟩, ⟨%fs7, HS7⟩, ⟨%fs8, HS8⟩, ⟨%fs9, HS9⟩, ⟨%fs10, HS10⟩, ⟨%fs11, HS11⟩, ⟨%fs12, HS12⟩, ⟨%fs13, HS13⟩, ⟨%fs14, HS14⟩, ⟨%fs15, HS15⟩, ⟨%fs16, HS16⟩, ⟨%fs17, HS17⟩, ⟨%fs18, HS18⟩⟩, Hg, ⟨Hq0, Hq1, Hq2, Hq3, Hq4, Hq5, Hq6, Hq7, Hq8, Hq9, Hq10, Hq11, Hq12, Hq13, Hq14, Hq15, Hq16, Hq17, Hq18, Hq19, Hq20, Hq21, Hq22, Hq23, Hq24⟩, ⟨Hh0, Hh1, Hh2, Hh3, Hh4, Hh5, Hh6, Hh7, Hh8, Hh9, Hh10, Hh11, Hh12, Hh13, Hh14, Hh15, Hh16, Hh17⟩, H9⟩, ⟨%W, -, HW⟩⟩
  rw [← kernelRun0_result c (V m c main_arg0) (V m c main_v0) (V m c main_arg2) (V m c main_v1) (V m c main_arg4) (V m c main_v2) (V m c main_arg6) (V m c main_v3) (V m c main_arg8) (V m c main_v4) (V m c main_arg10) (V m c main_v5) (V m c main_arg12) (V m c main_v6) (V m c main_arg14) (V m c main_v7) (V m c main_arg16) (V m c main_v8) (V m c main_v9) fs0 fs1 fs2 fs3 fs4 fs5 fs6 fs7 fs8 fs9 fs10 fs11 fs12 fs13 fs14 fs15 fs16 fs17 fs18]
  iapply ((kernelRun0 c (V m c main_arg0) (V m c main_v0) (V m c main_arg2) (V m c main_v1) (V m c main_arg4) (V m c main_v2) (V m c main_arg6) (V m c main_v3) (V m c main_arg8) (V m c main_v4) (V m c main_arg10) (V m c main_v5) (V m c main_arg12) (V m c main_v6) (V m c main_arg14) (V m c main_v7) (V m c main_arg16) (V m c main_v8) (V m c main_v9) fs0 fs1 fs2 fs3 fs4 fs5 fs6 fs7 fs8 fs9 fs10 fs11 fs12 fs13 fs14 fs15 fs16 fs17 fs18).2 W _)
  isplitl [Hh0]; · iexact Hh0
  isplitl [Hh1]; · iexact Hh1
  isplitl [Hh2]; · iexact Hh2
  isplitl [Hh3]; · iexact Hh3
  isplitl [Hh4]; · iexact Hh4
  isplitl [Hh5]; · iexact Hh5
  isplitl [Hh6]; · iexact Hh6
  isplitl [Hh7]; · iexact Hh7
  isplitl [Hh8]; · iexact Hh8
  isplitl [Hh9]; · iexact Hh9
  isplitl [Hh10]; · iexact Hh10
  isplitl [Hh11]; · iexact Hh11
  isplitl [Hh12]; · iexact Hh12
  isplitl [Hh13]; · iexact Hh13
  isplitl [Hh14]; · iexact Hh14
  isplitl [Hh15]; · iexact Hh15
  isplitl [Hh16]; · iexact Hh16
  isplitl [Hh17]; · iexact Hh17
  isplitl [H9]; · iexact H9
  isplitl [HS0]; · iexact HS0
  isplitl [HS1]; · iexact HS1
  isplitl [HS2]; · iexact HS2
  isplitl [HS3]; · iexact HS3
  isplitl [HS4]; · iexact HS4
  isplitl [HS5]; · iexact HS5
  isplitl [HS6]; · iexact HS6
  isplitl [HS7]; · iexact HS7
  isplitl [HS8]; · iexact HS8
  isplitl [HS9]; · iexact HS9
  isplitl [HS10]; · iexact HS10
  isplitl [HS11]; · iexact HS11
  isplitl [HS12]; · iexact HS12
  isplitl [HS13]; · iexact HS13
  isplitl [HS14]; · iexact HS14
  isplitl [HS15]; · iexact HS15
  isplitl [HS16]; · iexact HS16
  isplitl [HS17]; · iexact HS17
  isplitl [HS18]; · iexact HS18
  isplitl [Hq0]; · iexact Hq0
  isplitl [Hq1]; · iexact Hq1
  isplitl [Hq2]; · iexact Hq2
  isplitl [Hq3]; · iexact Hq3
  isplitl [Hq4]; · iexact Hq4
  isplitl [Hq5]; · iexact Hq5
  isplitl [Hq6]; · iexact Hq6
  isplitl [Hq7]; · iexact Hq7
  isplitl [Hq8]; · iexact Hq8
  isplitl [Hq9]; · iexact Hq9
  isplitl [Hq10]; · iexact Hq10
  isplitl [Hq11]; · iexact Hq11
  isplitl [Hq12]; · iexact Hq12
  isplitl [Hq13]; · iexact Hq13
  isplitl [Hq14]; · iexact Hq14
  isplitl [Hq15]; · iexact Hq15
  isplitl [Hq16]; · iexact Hq16
  isplitl [Hq17]; · iexact Hq17
  isplitl [Hq18]; · iexact Hq18
  isplitl [Hq19]; · iexact Hq19
  isplitl [Hq20]; · iexact Hq20
  isplitl [Hq21]; · iexact Hq21
  isplitl [Hq22]; · iexact Hq22
  isplitl [Hq23]; · iexact Hq23
  isplitl [Hq24]; · iexact Hq24
  isplitl [HW]; · iexact HW
  iintro ⟨Hh0, Hh1, Hh2, Hh3, Hh4, Hh5, Hh6, Hh7, Hh8, Hh9, Hh10, Hh11, Hh12, Hh13, Hh14, Hh15, Hh16, Hh17, H9, HS0, HS1, HS2, HS3, HS4, HS5, HS6, HS7, HS8, HS9, HS10, HS11, HS12, HS13, HS14, HS15, HS16, HS17, HS18, Hq0, Hq1, Hq2, Hq3, Hq4, Hq5, Hq6, Hq7, Hq8, Hq9, Hq10, Hq11, Hq12, Hq13, Hq14, Hq15, Hq16, Hq17, Hq18, Hq19, Hq20, Hq21, Hq22, Hq23, Hq24, ⟨%W', HW'⟩⟩
  isplitl [HS0 HS1 HS2 HS3 HS4 HS5 HS6 HS7 HS8 HS9 HS10 HS11 HS12 HS13 HS14 HS15 HS16 HS17 HS18 Hg Hq0 Hq1 Hq2 Hq3 Hq4 Hq5 Hq6 Hq7 Hq8 Hq9 Hq10 Hq11 Hq12 Hq13 Hq14 Hq15 Hq16 Hq17 Hq18 Hq19 Hq20 Hq21 Hq22 Hq23 Hq24 Hh0 Hh1 Hh2 Hh3 Hh4 Hh5 Hh6 Hh7 Hh8 Hh9 Hh10 Hh11 Hh12 Hh13 Hh14 Hh15 Hh16 Hh17 H9]
  · isplitl [HS0 HS1 HS2 HS3 HS4 HS5 HS6 HS7 HS8 HS9 HS10 HS11 HS12 HS13 HS14 HS15 HS16 HS17 HS18]
    · isplitl [HS0]; · iexact HS0
      isplitl [HS1]; · iexact HS1
      isplitl [HS2]; · iexact HS2
      isplitl [HS3]; · iexact HS3
      isplitl [HS4]; · iexact HS4
      isplitl [HS5]; · iexact HS5
      isplitl [HS6]; · iexact HS6
      isplitl [HS7]; · iexact HS7
      isplitl [HS8]; · iexact HS8
      isplitl [HS9]; · iexact HS9
      isplitl [HS10]; · iexact HS10
      isplitl [HS11]; · iexact HS11
      isplitl [HS12]; · iexact HS12
      isplitl [HS13]; · iexact HS13
      isplitl [HS14]; · iexact HS14
      isplitl [HS15]; · iexact HS15
      isplitl [HS16]; · iexact HS16
      isplitl [HS17]; · iexact HS17
      iexact HS18
    isplitl [Hg]; · iexact Hg
    isplitl [Hq0 Hq1 Hq2 Hq3 Hq4 Hq5 Hq6 Hq7 Hq8 Hq9 Hq10 Hq11 Hq12 Hq13 Hq14 Hq15 Hq16 Hq17 Hq18 Hq19 Hq20 Hq21 Hq22 Hq23 Hq24]
    · isplitl [Hq0]; · iexact Hq0
      isplitl [Hq1]; · iexact Hq1
      isplitl [Hq2]; · iexact Hq2
      isplitl [Hq3]; · iexact Hq3
      isplitl [Hq4]; · iexact Hq4
      isplitl [Hq5]; · iexact Hq5
      isplitl [Hq6]; · iexact Hq6
      isplitl [Hq7]; · iexact Hq7
      isplitl [Hq8]; · iexact Hq8
      isplitl [Hq9]; · iexact Hq9
      isplitl [Hq10]; · iexact Hq10
      isplitl [Hq11]; · iexact Hq11
      isplitl [Hq12]; · iexact Hq12
      isplitl [Hq13]; · iexact Hq13
      isplitl [Hq14]; · iexact Hq14
      isplitl [Hq15]; · iexact Hq15
      isplitl [Hq16]; · iexact Hq16
      isplitl [Hq17]; · iexact Hq17
      isplitl [Hq18]; · iexact Hq18
      isplitl [Hq19]; · iexact Hq19
      isplitl [Hq20]; · iexact Hq20
      isplitl [Hq21]; · iexact Hq21
      isplitl [Hq22]; · iexact Hq22
      isplitl [Hq23]; · iexact Hq23
      iexact Hq24
    isplitl [Hh0 Hh1 Hh2 Hh3 Hh4 Hh5 Hh6 Hh7 Hh8 Hh9 Hh10 Hh11 Hh12 Hh13 Hh14 Hh15 Hh16 Hh17]
    · isplitl [Hh0]; · iexact Hh0
      isplitl [Hh1]; · iexact Hh1
      isplitl [Hh2]; · iexact Hh2
      isplitl [Hh3]; · iexact Hh3
      isplitl [Hh4]; · iexact Hh4
      isplitl [Hh5]; · iexact Hh5
      isplitl [Hh6]; · iexact Hh6
      isplitl [Hh7]; · iexact Hh7
      isplitl [Hh8]; · iexact Hh8
      isplitl [Hh9]; · iexact Hh9
      isplitl [Hh10]; · iexact Hh10
      isplitl [Hh11]; · iexact Hh11
      isplitl [Hh12]; · iexact Hh12
      isplitl [Hh13]; · iexact Hh13
      isplitl [Hh14]; · iexact Hh14
      isplitl [Hh15]; · iexact Hh15
      isplitl [Hh16]; · iexact Hh16
      iexact Hh17
    iexact H9
  iexists W'; isplitr; · ipureintro; exact fun _ _ => Or.inl trivial
  iexact HW'

/-- The region's body is the kernel on its buffers. -/
theorem defs₀_row (t : Fin cfg0.N) :
    defs₀ (F := F) .tc cfg0.body (cfg0.bodyArgs t (cfg0.slots t)) = bodyAt0 t := by
  unfold defs₀; rw [Defs.onTc_tc]

/-- The launch's body obligation: there are no staged windows, so it is the triple above. -/
theorem body_obligation (c : Dev nD) : BodyObligation (dats (F := F) m 0 c) (defs₀ (F := F)) Variants.none () Set.univ := fun t => by
  rw [defs₀_row]
  rw [show (Finset.univ : Finset (Fin cfg0.W)) = ∅ from rfl, bigSep_empty, bigSep_empty]
  refine triple_restated (sound_body m c t) rfl ?_ fun _ => ?_
  · iintro ⟨HΦ, HW, -⟩
    isplitl [HΦ]; · iexact HΦ
    iexact HW
  · iintro ⟨HΦ, HW⟩
    isplitl [HΦ]; · iexact HΦ
    isplitl [HW]; · iexact HW
    iempintro

set_option backward.isDefEq.respectTransparency.types false in
/-- The whole program's run: every buffer but the result as the region found it, the result at `result`, every semaphore at zero. -/
theorem run_main : θ_run defs (onTc (τ := τ) (main (F := F))) (s₀ m ρ) (fun r => Pipeline.FramePostRG cfgs (dats m) 0 R0 (V m) (G m) r ∧ r.2.sem = fun _ => 0) :=
  Pipeline.θ_run_frame_dmaRG (Q' := _) cfgs (dats m) (0 : Fin 1) launch0 osem0 defs₀ Variants.none ownSemFacts0 H0 R0 H0_sub R0_sub m ρ main
    (hbody := fun c => (body_obligation m c).loose) (hshare := fun c => (dats m 0 c).share_full fun _ => rfl)
    (howed := fun _ _ => rfl) (V := V m) (hmain := Pipeline.hmain_prefix cfgs 0 defs₀ Variants.none m main hostOps0 hostOps0_sub hostOps0_fresh main_chain)
    (hA := fun _ w => w.elim0)
    (G := G m)
    (hin := fun c => by rw [show (dats m 0 c).Φ 0 = _ from phi_pre m c t0_0])
    (hout := fun c => by rw [show (dats m 0 c).Φ (Fin.last cfg0.N) = _ from phi_post m c t0_0])

/-- The run: the result ends at what the region leaves there, the arguments as launched, every semaphore at zero. -/
theorem run : θ_run defs (onTc (τ := τ) (main (F := F))) ⟨m, fun _ => 0, ρ⟩ (fun r => (∀ c : Dev nD,
      r.2.mem ((c.tc : Thread nD τ).loc main_v9) = G m c main_v9
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17))
      ∧ r.2.sem = fun _ => 0) :=
  (θ_run defs _ _).mono (fun _ h => by
    have hr := h.1.toR
    exact ⟨fun c => ⟨h.1.written c (by decide), ((hr c).2 main_arg0 (Finset.mem_sdiff.mpr ⟨Pipeline.mem_restRefs_of main_arg0 (by decide) (by decide), by decide⟩)).trans (V_main_arg0 m c),
      ((hr c).2 main_arg1 (Finset.mem_sdiff.mpr ⟨Pipeline.mem_restRefs_of main_arg1 (by decide) (by decide), by decide⟩)).trans (V_main_arg1 m c),
      ((hr c).2 main_arg2 (Finset.mem_sdiff.mpr ⟨Pipeline.mem_restRefs_of main_arg2 (by decide) (by decide), by decide⟩)).trans (V_main_arg2 m c),
      ((hr c).2 main_arg3 (Finset.mem_sdiff.mpr ⟨Pipeline.mem_restRefs_of main_arg3 (by decide) (by decide), by decide⟩)).trans (V_main_arg3 m c),
      ((hr c).2 main_arg4 (Finset.mem_sdiff.mpr ⟨Pipeline.mem_restRefs_of main_arg4 (by decide) (by decide), by decide⟩)).trans (V_main_arg4 m c),
      ((hr c).2 main_arg5 (Finset.mem_sdiff.mpr ⟨Pipeline.mem_restRefs_of main_arg5 (by decide) (by decide), by decide⟩)).trans (V_main_arg5 m c),
      ((hr c).2 main_arg6 (Finset.mem_sdiff.mpr ⟨Pipeline.mem_restRefs_of main_arg6 (by decide) (by decide), by decide⟩)).trans (V_main_arg6 m c),
      ((hr c).2 main_arg7 (Finset.mem_sdiff.mpr ⟨Pipeline.mem_restRefs_of main_arg7 (by decide) (by decide), by decide⟩)).trans (V_main_arg7 m c),
      ((hr c).2 main_arg8 (Finset.mem_sdiff.mpr ⟨Pipeline.mem_restRefs_of main_arg8 (by decide) (by decide), by decide⟩)).trans (V_main_arg8 m c),
      ((hr c).2 main_arg9 (Finset.mem_sdiff.mpr ⟨Pipeline.mem_restRefs_of main_arg9 (by decide) (by decide), by decide⟩)).trans (V_main_arg9 m c),
      ((hr c).2 main_arg10 (Finset.mem_sdiff.mpr ⟨Pipeline.mem_restRefs_of main_arg10 (by decide) (by decide), by decide⟩)).trans (V_main_arg10 m c),
      ((hr c).2 main_arg11 (Finset.mem_sdiff.mpr ⟨Pipeline.mem_restRefs_of main_arg11 (by decide) (by decide), by decide⟩)).trans (V_main_arg11 m c),
      ((hr c).2 main_arg12 (Finset.mem_sdiff.mpr ⟨Pipeline.mem_restRefs_of main_arg12 (by decide) (by decide), by decide⟩)).trans (V_main_arg12 m c),
      ((hr c).2 main_arg13 (Finset.mem_sdiff.mpr ⟨Pipeline.mem_restRefs_of main_arg13 (by decide) (by decide), by decide⟩)).trans (V_main_arg13 m c),
      ((hr c).2 main_arg14 (Finset.mem_sdiff.mpr ⟨Pipeline.mem_restRefs_of main_arg14 (by decide) (by decide), by decide⟩)).trans (V_main_arg14 m c),
      ((hr c).2 main_arg15 (Finset.mem_sdiff.mpr ⟨Pipeline.mem_restRefs_of main_arg15 (by decide) (by decide), by decide⟩)).trans (V_main_arg15 m c),
      ((hr c).2 main_arg16 (Finset.mem_sdiff.mpr ⟨Pipeline.mem_restRefs_of main_arg16 (by decide) (by decide), by decide⟩)).trans (V_main_arg16 m c),
      ((hr c).2 main_arg17 (Finset.mem_sdiff.mpr ⟨Pipeline.mem_restRefs_of main_arg17 (by decide) (by decide), by decide⟩)).trans (V_main_arg17 m c)⟩, h.2⟩) (run_main m ρ)

/-- The frame: the arguments end as launched, every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17))
      ∧ r.2.sem = fun _ => 0) :=
  (θ_run defs _ _).mono (fun _ h => ⟨fun c => (h.1 c).2, h.2⟩) (run m ρ)

end Cert.KernelIdeal.Hand

end
-- ==== Proof.ReferenceRun.lean ====
module

public import proofs.«01_k».proof.Defs
public import proofs.«01_k».proof.Proof.Gen.ReferenceIdeal
public import Idealize.ShloMosaic.Lib.StableHlo.Run
public import Idealize.ShloMosaic.Lib.StableHlo.RunRead

/-! The reference program's run. Its @main is a straight line of host operations; they are listed here in eight
groups, each with the function of the buffers it reads that its last buffer ends holding. The run theorem says that
every execution ends with the result at the composition of those functions and with the arguments unchanged. -/

@[expose] public section

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- An array of floats of shape `S`. -/
abbrev FArr (F : FTy → Type) (S : Shape) : Type := (⟨S, .f32⟩ : BufTy).Contents (Elt F)

/-- An array of 32-bit integers of shape `S`. -/
abbrev IArr (F : FTy → Type) (S : Shape) : Type := (⟨S, .i32⟩ : BufTy).Contents (Elt F)

/-! ## The functions -/

/-- The squared distance of each row of `x` to each node of the map: `|x|² − 2·x·w + |w|²`. -/
def dist (x : FArr F S16384x128) (som : FArr F S10x10x128) : FArr F S16384x100 :=
  addf
    (subf
      (broadcastInDim S16384x100 ![0, 1] bcast_S16384x1_S16384x100_0_1
        (broadcastInDim S16384x1 ![0] bcast_S16384_S16384x1_0
          (Host.reduceAdd (mulf x x) (constant S_ .f32 0x00000000#32) reducesTo_S16384x128_S16384_d1 h_S_)))
      (mulf (broadcastInDim S16384x100 ![] bcast_S_S16384x100 (constant S_ .f32 0x40000000#32))
        (Host.dotGeneral dot_S16384x128_S128x100_S16384x100_1_0_0_1_n_n none x
          (transpose S128x100 [1, 0] (shapeCast S100x128 som shapeCasts_S10x10x128_S100x128)
            transposes_S100x128_S128x100_1_0))))
    (broadcastInDim S16384x100 ![0, 1] bcast_S1x100_S16384x100_0_1
      (broadcastInDim S1x100 ![1] bcast_S100_S1x100_1
        (Host.reduceAdd
          (mulf (shapeCast S100x128 som shapeCasts_S10x10x128_S100x128)
            (shapeCast S100x128 som shapeCasts_S10x10x128_S100x128))
          (constant S_ .f32 0x00000000#32) reducesTo_S100x128_S100_d1 h_S_)))

/-- The minimum over the nodes, with the position it is found at. -/
def bmuValue (d : FArr F S16384x100) (p : IArr F S16384x100) (u : FArr F S_) (v : IArr F S_) : FArr F S16384 :=
  fun j => (Host.argReduce reducer_argmin_f32_i32 d p u v reducesTo_S16384x100_S16384_d1 h_S_ j).1

/-- The position of the minimum over the nodes. -/
def bmuIndex (d : FArr F S16384x100) (p : IArr F S16384x100) (u : FArr F S_) (v : IArr F S_) : IArr F S16384 :=
  fun j => (Host.argReduce reducer_argmin_f32_i32 d p u v reducesTo_S16384x100_S16384_d1 h_S_ j).2

/-- The best matching node of each row: the position of the least of its distances. -/
def bmu (d : FArr F S16384x100) : IArr F S16384 :=
  bmuIndex d (iotaInDim S16384x100 32 1) (constant S_ .f32 0x7F800000#32) (constantI S_ 32 0#32)

/-- A 32-bit number at every row. -/
def everyRow (n : IArr F S_) : IArr F S16384 := broadcastInDim S16384 ![] bcast_S_S16384 n

/-- Floor division by ten: the truncated quotient, less one where the signs differ and the remainder is not zero. -/
def floorTen (i : IArr F S16384) : IArr F S16384 :=
  select
    (andi
      (cmpi .ne (signi i) (everyRow (F := F) (signi (constantI S_ 32 10#32))))
      (cmpi .ne (Host.remsi i (everyRow (F := F) (constantI S_ 32 10#32))) (everyRow (F := F) (constantI S_ 32 0#32))))
    (subi (Host.divsi i (everyRow (F := F) (constantI S_ 32 10#32))) (everyRow (F := F) (constantI S_ 32 1#32)))
    (Host.divsi i (everyRow (F := F) (constantI S_ 32 10#32)))

/-- Ten, or one were ten zero: the divisor the remainder guards against zero. -/
def guardedTen : IArr F S_ :=
  select (cmpi .eq (constantI S_ 32 10#32) (constantI S_ 32 0#32)) (constantI S_ 32 1#32) (constantI S_ 32 10#32)

/-- The remainder by ten with the divisor's sign. -/
def modTen (i : IArr F S16384) : IArr F S16384 :=
  select
    (andi
      (cmpi .ne
        (cmpi .slt (Host.remsi i (everyRow (F := F) (guardedTen (F := F)))) (everyRow (F := F) (constantI S_ 32 0#32)))
        (broadcastInDim S16384 ![] bcast_S_S16384 (cmpi .slt (guardedTen (F := F)) (constantI S_ 32 0#32))))
      (cmpi .ne (Host.remsi i (everyRow (F := F) (guardedTen (F := F)))) (everyRow (F := F) (constantI S_ 32 0#32))))
    (addi (Host.remsi i (everyRow (F := F) (guardedTen (F := F)))) (everyRow (F := F) (guardedTen (F := F))))
    (Host.remsi i (everyRow (F := F) (guardedTen (F := F))))

/-- Two columns side by side. -/
def joinCoords (a b : IArr F S16384x1) : IArr F S16384x2 :=
  concatenate S16384x2 1 [⟨S16384x1, a⟩, ⟨S16384x1, b⟩] concatenates_S16384x1_S16384x1_S16384x2_d1

/-- The grid coordinates of the node `i` of each row, divided by ten. -/
def coords (i : IArr F S16384) : FArr F S16384x2 :=
  Host.divf
    (sitofp .f32
      (joinCoords (broadcastInDim S16384x1 ![0] bcast_S16384_S16384x1_0 (floorTen i))
        (broadcastInDim S16384x1 ![0] bcast_S16384_S16384x1_0 (modTen i))))
    (broadcastInDim S16384x2 ![] bcast_S_S16384x2 (constant S_ .f32 0x41200000#32))

/-- The encoder: two layers with `tanh`, then a linear one. -/
def encode (x : FArr F S16384x128) (w1 : FArr F S128x64) (b1 : FArr F S64) (w2 : FArr F S64x32) (b2 : FArr F S32)
    (w3 : FArr F S32x4) (b3 : FArr F S4) : FArr F S16384x4 :=
  addf
    (Host.dotGeneral dot_S16384x32_S32x4_S16384x4_1_0_0_1_n_n none
      (Host.tanh (addf
        (Host.dotGeneral dot_S16384x64_S64x32_S16384x32_1_0_0_1_n_n none
          (Host.tanh (addf (Host.dotGeneral dot_S16384x128_S128x64_S16384x64_1_0_0_1_n_n none x w1)
            (broadcastInDim S16384x64 ![0, 1] bcast_S1x64_S16384x64_0_1
              (broadcastInDim S1x64 ![1] bcast_S64_S1x64_1 b1))))
          w2)
        (broadcastInDim S16384x32 ![0, 1] bcast_S1x32_S16384x32_0_1 (broadcastInDim S1x32 ![1] bcast_S32_S1x32_1 b2))))
      w3)
    (broadcastInDim S16384x4 ![0, 1] bcast_S1x4_S16384x4_0_1 (broadcastInDim S1x4 ![1] bcast_S4_S1x4_1 b3))

/-- The decoder: two layers with `tanh`, then a linear one. -/
def decode (z : FArr F S16384x4) (w1 : FArr F S4x32) (b1 : FArr F S32) (w2 : FArr F S32x64) (b2 : FArr F S64)
    (w3 : FArr F S64x128) (b3 : FArr F S128) : FArr F S16384x128 :=
  addf
    (Host.dotGeneral dot_S16384x64_S64x128_S16384x128_1_0_0_1_n_n none
      (Host.tanh (addf
        (Host.dotGeneral dot_S16384x32_S32x64_S16384x64_1_0_0_1_n_n none
          (Host.tanh (addf (Host.dotGeneral dot_S16384x4_S4x32_S16384x32_1_0_0_1_n_n none z w1)
            (broadcastInDim S16384x32 ![0, 1] bcast_S1x32_S16384x32_0_1
              (broadcastInDim S1x32 ![1] bcast_S32_S1x32_1 b1))))
          w2)
        (broadcastInDim S16384x64 ![0, 1] bcast_S1x64_S16384x64_0_1 (broadcastInDim S1x64 ![1] bcast_S64_S1x64_1 b2))))
      w3)
    (broadcastInDim S16384x128 ![0, 1] bcast_S1x128_S16384x128_0_1 (broadcastInDim S1x128 ![1] bcast_S128_S1x128_1 b3))

/-- The product of two arrays, summed along each row. -/
def rowDot (a b : FArr F S16384x128) : FArr F S16384 :=
  Host.reduceAdd (mulf a b) (constant S_ .f32 0x00000000#32) reducesTo_S16384x128_S16384_d1 h_S_

/-- The Euclidean norm of each row. -/
def rowNorm (a : FArr F S16384x128) : FArr F S16384 := Host.sqrt (rowDot a a)

/-- The small positive number the quotients are kept from zero by. -/
def tiny : FArr F S16384 := broadcastInDim S16384 ![] bcast_S_S16384 (constant S_ .f32 0x2B8CBCCC#32)

/-- The relative error of the reconstruction `y` of `x`. -/
def relErr (x y : FArr F S16384x128) : FArr F S16384 :=
  Host.divf (rowNorm (subf x y)) (addf (rowNorm x) tiny)

/-- The cosine similarity of `x` and its reconstruction `y`. -/
def cosSim (x y : FArr F S16384x128) : FArr F S16384 :=
  Host.divf (rowDot x y) (addf (mulf (rowNorm x) (rowNorm y)) tiny)

/-- The eight features of each row, side by side. -/
def joinFeatures (z : FArr F S16384x4) (e c : FArr F S16384x1) (s : FArr F S16384x2) : FArr F S16384x8 :=
  concatenate S16384x8 1 [⟨S16384x4, z⟩, ⟨S16384x1, e⟩, ⟨S16384x1, c⟩, ⟨S16384x2, s⟩]
    concatenates_S16384x4_S16384x1_S16384x1_S16384x2_S16384x8_d1

/-- The gate before its softmax. -/
def gate (z : FArr F S16384x4) (e c : FArr F S16384) (s : FArr F S16384x2) (w1 : FArr F S8x10) (b1 : FArr F S10)
    (w2 : FArr F S10x4) (b2 : FArr F S4) : FArr F S16384x4 :=
  addf
    (Host.dotGeneral dot_S16384x10_S10x4_S16384x4_1_0_0_1_n_n none
      (Host.tanh (addf
        (Host.dotGeneral dot_S16384x8_S8x10_S16384x10_1_0_0_1_n_n none
          (joinFeatures z (broadcastInDim S16384x1 ![0] bcast_S16384_S16384x1_0 e)
            (broadcastInDim S16384x1 ![0] bcast_S16384_S16384x1_0 c) s) w1)
        (broadcastInDim S16384x10 ![0, 1] bcast_S1x10_S16384x10_0_1 (broadcastInDim S1x10 ![1] bcast_S10_S1x10_1 b1))))
      w2)
    (broadcastInDim S16384x4 ![0, 1] bcast_S1x4_S16384x4_0_1 (broadcastInDim S1x4 ![1] bcast_S4_S1x4_1 b2))

/-- One number per row, repeated over the four columns. -/
def fourTimes (a : FArr F S16384) : FArr F S16384x4 :=
  broadcastInDim S16384x4 ![0, 1] bcast_S16384x1_S16384x4_0_1 (broadcastInDim S16384x1 ![0] bcast_S16384_S16384x1_0 a)

/-- The exponentials of a row's entries, each less the row's maximum. -/
def shiftedExp (g : FArr F S16384x4) : FArr F S16384x4 :=
  Host.exp (subf g (fourTimes
    (maximumf (broadcastInDim S16384 ![] bcast_S_S16384 (constant S_ .f32 0xFF800000#32))
      (Host.reduce FloatOps.maximumf g (constant S_ .f32 0xFF800000#32) reducesTo_S16384x4_S16384_d1 h_S_))))

/-- The softmax of each row. -/
def softmaxRows (g : FArr F S16384x4) : FArr F S16384x4 :=
  Host.divf (shiftedExp g) (fourTimes
    (Host.reduceAdd (shiftedExp g) (constant S_ .f32 0x00000000#32) reducesTo_S16384x4_S16384_d1 h_S_))

/-! ## The operations -/

/-- The operations of @main that compute the squared distances to the map nodes. -/
abbrev opsDist : List (HloOp τ sig (Elt F)) :=
  [ reshape main_arg1 main_v0 (rfl : (.f32 : EltTy) = .f32) shapeCasts_S10x10x128_S100x128,
    binary main_arg0 main_arg0 main_v1 (mulf : FArr F S16384x128 → FArr F S16384x128 → FArr F S16384x128),
    nullary main_cst (constant S_ .f32 0x00000000#32),
    binary main_v1 main_cst main_v2 ((fun x v => Host.reduceAdd x v reducesTo_S16384x128_S16384_d1 h_S_) : FArr F S16384x128 → FArr F S_ → FArr F S16384),
    unary main_v2 main_v3 (broadcastInDim S16384x1 ![0] bcast_S16384_S16384x1_0 : FArr F S16384 → FArr F S16384x1),
    binary main_v0 main_v0 main_v4 (mulf : FArr F S100x128 → FArr F S100x128 → FArr F S100x128),
    nullary main_cst_0 (constant S_ .f32 0x00000000#32),
    binary main_v4 main_cst_0 main_v5 ((fun x v => Host.reduceAdd x v reducesTo_S100x128_S100_d1 h_S_) : FArr F S100x128 → FArr F S_ → FArr F S100),
    unary main_v5 main_v6 (broadcastInDim S1x100 ![1] bcast_S100_S1x100_1 : FArr F S100 → FArr F S1x100),
    unary main_v0 main_v7 ((transpose S128x100 [1, 0] · transposes_S100x128_S128x100_1_0) : FArr F S100x128 → FArr F S128x100),
    binary main_arg0 main_v7 main_v8 ((fun l r => Host.dotGeneral dot_S16384x128_S128x100_S16384x100_1_0_0_1_n_n none l r) : FArr F S16384x128 → FArr F S128x100 → FArr F S16384x100),
    nullary main_cst_1 (constant S_ .f32 0x40000000#32),
    unary main_cst_1 main_v9 (broadcastInDim S16384x100 ![] bcast_S_S16384x100 : FArr F S_ → FArr F S16384x100),
    binary main_v9 main_v8 main_v10 (mulf : FArr F S16384x100 → FArr F S16384x100 → FArr F S16384x100),
    unary main_v3 main_v11 (broadcastInDim S16384x100 ![0, 1] bcast_S16384x1_S16384x100_0_1 : FArr F S16384x1 → FArr F S16384x100),
    binary main_v11 main_v10 main_v12 (subf : FArr F S16384x100 → FArr F S16384x100 → FArr F S16384x100),
    unary main_v6 main_v13 (broadcastInDim S16384x100 ![0, 1] bcast_S1x100_S16384x100_0_1 : FArr F S1x100 → FArr F S16384x100),
    binary main_v12 main_v13 main_v14 (addf : FArr F S16384x100 → FArr F S16384x100 → FArr F S16384x100) ]

/-- The operations of @main that compute the best matching node. -/
abbrev opsBmu : List (HloOp τ sig (Elt F)) :=
  [ TRef.nullary (TRef.of (T := ⟨S16384x100, .i32⟩) main_call0_v0) (iotaInDim S16384x100 32 1),
    TRef.nullary (TRef.of (T := ⟨S_, .f32⟩) main_call0_cst) (constant S_ .f32 0x7F800000#32),
    TRef.nullary (TRef.of (T := ⟨S_, .i32⟩) main_call0_c) (constantI S_ 32 0#32),
    TRef.quaternary (TRef.of (T := ⟨S16384x100, .f32⟩) main_v14) (TRef.of (T := ⟨S16384x100, .i32⟩) main_call0_v0) (TRef.of (T := ⟨S_, .f32⟩) main_call0_cst) (TRef.of (T := ⟨S_, .i32⟩) main_call0_c) (TRef.of (T := ⟨S16384, .f32⟩) main_call0_v1_0) (bmuValue (F := F)),
    TRef.quaternary (TRef.of (T := ⟨S16384x100, .f32⟩) main_v14) (TRef.of (T := ⟨S16384x100, .i32⟩) main_call0_v0) (TRef.of (T := ⟨S_, .f32⟩) main_call0_cst) (TRef.of (T := ⟨S_, .i32⟩) main_call0_c) (TRef.of (T := ⟨S16384, .i32⟩) main_v15) (bmuIndex (F := F)) ]

/-- The operations of @main that compute its two grid coordinates, each divided by ten. -/
abbrev opsCoord : List (HloOp τ sig (Elt F)) :=
  [ nullary main_c (constantI S_ 32 10#32),
    TRef.unary (TRef.of (T := ⟨S_, .i32⟩) main_c) (TRef.of (T := ⟨S_, .i32⟩) main_call1_v0) id,
    TRef.unary (TRef.of (T := ⟨S_, .i32⟩) main_call1_v0) (TRef.of (T := ⟨S16384, .i32⟩) main_call1_v1) (broadcastInDim S16384 ![] bcast_S_S16384),
    TRef.binary (TRef.of (T := ⟨S16384, .i32⟩) main_v15) (TRef.of (T := ⟨S16384, .i32⟩) main_call1_v1) (TRef.of (T := ⟨S16384, .i32⟩) main_call1_v2) Host.divsi,
    TRef.unary (TRef.of (T := ⟨S16384, .i32⟩) main_v15) (TRef.of (T := ⟨S16384, .i32⟩) main_call1_v3) signi,
    TRef.unary (TRef.of (T := ⟨S_, .i32⟩) main_call1_v0) (TRef.of (T := ⟨S_, .i32⟩) main_call1_v4) signi,
    TRef.unary (TRef.of (T := ⟨S_, .i32⟩) main_call1_v4) (TRef.of (T := ⟨S16384, .i32⟩) main_call1_v5) (broadcastInDim S16384 ![] bcast_S_S16384),
    TRef.binary (TRef.of (T := ⟨S16384, .i32⟩) main_call1_v3) (TRef.of (T := ⟨S16384, .i32⟩) main_call1_v5) (TRef.of (T := ⟨S16384, .i1⟩) main_call1_v6) (cmpi .ne),
    TRef.unary (TRef.of (T := ⟨S_, .i32⟩) main_call1_v0) (TRef.of (T := ⟨S16384, .i32⟩) main_call1_v7) (broadcastInDim S16384 ![] bcast_S_S16384),
    TRef.binary (TRef.of (T := ⟨S16384, .i32⟩) main_v15) (TRef.of (T := ⟨S16384, .i32⟩) main_call1_v7) (TRef.of (T := ⟨S16384, .i32⟩) main_call1_v8) Host.remsi,
    TRef.nullary (TRef.of (T := ⟨S_, .i32⟩) main_call1_c) (constantI S_ 32 0#32),
    TRef.unary (TRef.of (T := ⟨S_, .i32⟩) main_call1_c) (TRef.of (T := ⟨S16384, .i32⟩) main_call1_v9) (broadcastInDim S16384 ![] bcast_S_S16384),
    TRef.binary (TRef.of (T := ⟨S16384, .i32⟩) main_call1_v8) (TRef.of (T := ⟨S16384, .i32⟩) main_call1_v9) (TRef.of (T := ⟨S16384, .i1⟩) main_call1_v10) (cmpi .ne),
    TRef.binary (TRef.of (T := ⟨S16384, .i1⟩) main_call1_v6) (TRef.of (T := ⟨S16384, .i1⟩) main_call1_v10) (TRef.of (T := ⟨S16384, .i1⟩) main_call1_v11) andi,
    TRef.nullary (TRef.of (T := ⟨S_, .i32⟩) main_call1_c_0) (constantI S_ 32 1#32),
    TRef.unary (TRef.of (T := ⟨S_, .i32⟩) main_call1_c_0) (TRef.of (T := ⟨S16384, .i32⟩) main_call1_v12) (broadcastInDim S16384 ![] bcast_S_S16384),
    TRef.binary (TRef.of (T := ⟨S16384, .i32⟩) main_call1_v2) (TRef.of (T := ⟨S16384, .i32⟩) main_call1_v12) (TRef.of (T := ⟨S16384, .i32⟩) main_call1_v13) subi,
    TRef.ternary (TRef.of (T := ⟨S16384, .i1⟩) main_call1_v11) (TRef.of (T := ⟨S16384, .i32⟩) main_call1_v13) (TRef.of (T := ⟨S16384, .i32⟩) main_call1_v2) (TRef.of (T := ⟨S16384, .i32⟩) main_v16) select,
    nullary main_c_2 (constantI S_ 32 10#32),
    TRef.unary (TRef.of (T := ⟨S_, .i32⟩) main_c_2) (TRef.of (T := ⟨S_, .i32⟩) main_call2_v0) id,
    TRef.nullary (TRef.of (T := ⟨S_, .i32⟩) main_call2_c) (constantI S_ 32 0#32),
    TRef.binary (TRef.of (T := ⟨S_, .i32⟩) main_call2_v0) (TRef.of (T := ⟨S_, .i32⟩) main_call2_c) (TRef.of (T := ⟨S_, .i1⟩) main_call2_v1) (cmpi .eq),
    TRef.nullary (TRef.of (T := ⟨S_, .i32⟩) main_call2_c_0) (constantI S_ 32 1#32),
    TRef.ternary (TRef.of (T := ⟨S_, .i1⟩) main_call2_v1) (TRef.of (T := ⟨S_, .i32⟩) main_call2_c_0) (TRef.of (T := ⟨S_, .i32⟩) main_call2_v0) (TRef.of (T := ⟨S_, .i32⟩) main_call2_v2) select,
    TRef.unary (TRef.of (T := ⟨S_, .i32⟩) main_call2_v2) (TRef.of (T := ⟨S16384, .i32⟩) main_call2_v3) (broadcastInDim S16384 ![] bcast_S_S16384),
    TRef.binary (TRef.of (T := ⟨S16384, .i32⟩) main_v15) (TRef.of (T := ⟨S16384, .i32⟩) main_call2_v3) (TRef.of (T := ⟨S16384, .i32⟩) main_call2_v4) Host.remsi,
    TRef.nullary (TRef.of (T := ⟨S_, .i32⟩) main_call2_c_1) (constantI S_ 32 0#32),
    TRef.unary (TRef.of (T := ⟨S_, .i32⟩) main_call2_c_1) (TRef.of (T := ⟨S16384, .i32⟩) main_call2_v5) (broadcastInDim S16384 ![] bcast_S_S16384),
    TRef.binary (TRef.of (T := ⟨S16384, .i32⟩) main_call2_v4) (TRef.of (T := ⟨S16384, .i32⟩) main_call2_v5) (TRef.of (T := ⟨S16384, .i1⟩) main_call2_v6) (cmpi .ne),
    TRef.nullary (TRef.of (T := ⟨S_, .i32⟩) main_call2_c_2) (constantI S_ 32 0#32),
    TRef.unary (TRef.of (T := ⟨S_, .i32⟩) main_call2_c_2) (TRef.of (T := ⟨S16384, .i32⟩) main_call2_v7) (broadcastInDim S16384 ![] bcast_S_S16384),
    TRef.binary (TRef.of (T := ⟨S16384, .i32⟩) main_call2_v4) (TRef.of (T := ⟨S16384, .i32⟩) main_call2_v7) (TRef.of (T := ⟨S16384, .i1⟩) main_call2_v8) (cmpi .slt),
    TRef.nullary (TRef.of (T := ⟨S_, .i32⟩) main_call2_c_3) (constantI S_ 32 0#32),
    TRef.binary (TRef.of (T := ⟨S_, .i32⟩) main_call2_v2) (TRef.of (T := ⟨S_, .i32⟩) main_call2_c_3) (TRef.of (T := ⟨S_, .i1⟩) main_call2_v9) (cmpi .slt),
    TRef.unary (TRef.of (T := ⟨S_, .i1⟩) main_call2_v9) (TRef.of (T := ⟨S16384, .i1⟩) main_call2_v10) (broadcastInDim S16384 ![] bcast_S_S16384),
    TRef.binary (TRef.of (T := ⟨S16384, .i1⟩) main_call2_v8) (TRef.of (T := ⟨S16384, .i1⟩) main_call2_v10) (TRef.of (T := ⟨S16384, .i1⟩) main_call2_v11) (cmpi .ne),
    TRef.binary (TRef.of (T := ⟨S16384, .i1⟩) main_call2_v11) (TRef.of (T := ⟨S16384, .i1⟩) main_call2_v6) (TRef.of (T := ⟨S16384, .i1⟩) main_call2_v12) andi,
    TRef.unary (TRef.of (T := ⟨S_, .i32⟩) main_call2_v2) (TRef.of (T := ⟨S16384, .i32⟩) main_call2_v13) (broadcastInDim S16384 ![] bcast_S_S16384),
    TRef.binary (TRef.of (T := ⟨S16384, .i32⟩) main_call2_v4) (TRef.of (T := ⟨S16384, .i32⟩) main_call2_v13) (TRef.of (T := ⟨S16384, .i32⟩) main_call2_v14) addi,
    TRef.ternary (TRef.of (T := ⟨S16384, .i1⟩) main_call2_v12) (TRef.of (T := ⟨S16384, .i32⟩) main_call2_v14) (TRef.of (T := ⟨S16384, .i32⟩) main_call2_v4) (TRef.of (T := ⟨S16384, .i32⟩) main_v17) select,
    unary main_v16 main_v18 (broadcastInDim S16384x1 ![0] bcast_S16384_S16384x1_0 : IArr F S16384 → IArr F S16384x1),
    unary main_v17 main_v19 (broadcastInDim S16384x1 ![0] bcast_S16384_S16384x1_0 : IArr F S16384 → IArr F S16384x1),
    binary main_v18 main_v19 main_v20 (joinCoords (F := F)),
    unary main_v20 main_v21 (sitofp .f32 : IArr F S16384x2 → FArr F S16384x2),
    nullary main_cst_3 (constant S_ .f32 0x41200000#32),
    unary main_cst_3 main_v22 (broadcastInDim S16384x2 ![] bcast_S_S16384x2 : FArr F S_ → FArr F S16384x2),
    binary main_v21 main_v22 main_v23 (Host.divf : FArr F S16384x2 → FArr F S16384x2 → FArr F S16384x2) ]

/-- The operations of @main that compute the encoder. -/
abbrev opsEnc : List (HloOp τ sig (Elt F)) :=
  [ binary main_arg0 main_arg2 main_v24 ((fun l r => Host.dotGeneral dot_S16384x128_S128x64_S16384x64_1_0_0_1_n_n none l r) : FArr F S16384x128 → FArr F S128x64 → FArr F S16384x64),
    unary main_arg3 main_v25 (broadcastInDim S1x64 ![1] bcast_S64_S1x64_1 : FArr F S64 → FArr F S1x64),
    unary main_v25 main_v26 (broadcastInDim S16384x64 ![0, 1] bcast_S1x64_S16384x64_0_1 : FArr F S1x64 → FArr F S16384x64),
    binary main_v24 main_v26 main_v27 (addf : FArr F S16384x64 → FArr F S16384x64 → FArr F S16384x64),
    unary main_v27 main_v28 (Host.tanh : FArr F S16384x64 → FArr F S16384x64),
    binary main_v28 main_arg4 main_v29 ((fun l r => Host.dotGeneral dot_S16384x64_S64x32_S16384x32_1_0_0_1_n_n none l r) : FArr F S16384x64 → FArr F S64x32 → FArr F S16384x32),
    unary main_arg5 main_v30 (broadcastInDim S1x32 ![1] bcast_S32_S1x32_1 : FArr F S32 → FArr F S1x32),
    unary main_v30 main_v31 (broadcastInDim S16384x32 ![0, 1] bcast_S1x32_S16384x32_0_1 : FArr F S1x32 → FArr F S16384x32),
    binary main_v29 main_v31 main_v32 (addf : FArr F S16384x32 → FArr F S16384x32 → FArr F S16384x32),
    unary main_v32 main_v33 (Host.tanh : FArr F S16384x32 → FArr F S16384x32),
    binary main_v33 main_arg6 main_v34 ((fun l r => Host.dotGeneral dot_S16384x32_S32x4_S16384x4_1_0_0_1_n_n none l r) : FArr F S16384x32 → FArr F S32x4 → FArr F S16384x4),
    unary main_arg7 main_v35 (broadcastInDim S1x4 ![1] bcast_S4_S1x4_1 : FArr F S4 → FArr F S1x4),
    unary main_v35 main_v36 (broadcastInDim S16384x4 ![0, 1] bcast_S1x4_S16384x4_0_1 : FArr F S1x4 → FArr F S16384x4),
    binary main_v34 main_v36 main_v37 (addf : FArr F S16384x4 → FArr F S16384x4 → FArr F S16384x4) ]

/-- The operations of @main that compute the decoder. -/
abbrev opsDec : List (HloOp τ sig (Elt F)) :=
  [ binary main_v37 main_arg8 main_v38 ((fun l r => Host.dotGeneral dot_S16384x4_S4x32_S16384x32_1_0_0_1_n_n none l r) : FArr F S16384x4 → FArr F S4x32 → FArr F S16384x32),
    unary main_arg9 main_v39 (broadcastInDim S1x32 ![1] bcast_S32_S1x32_1 : FArr F S32 → FArr F S1x32),
    unary main_v39 main_v40 (broadcastInDim S16384x32 ![0, 1] bcast_S1x32_S16384x32_0_1 : FArr F S1x32 → FArr F S16384x32),
    binary main_v38 main_v40 main_v41 (addf : FArr F S16384x32 → FArr F S16384x32 → FArr F S16384x32),
    unary main_v41 main_v42 (Host.tanh : FArr F S16384x32 → FArr F S16384x32),
    binary main_v42 main_arg10 main_v43 ((fun l r => Host.dotGeneral dot_S16384x32_S32x64_S16384x64_1_0_0_1_n_n none l r) : FArr F S16384x32 → FArr F S32x64 → FArr F S16384x64),
    unary main_arg11 main_v44 (broadcastInDim S1x64 ![1] bcast_S64_S1x64_1 : FArr F S64 → FArr F S1x64),
    unary main_v44 main_v45 (broadcastInDim S16384x64 ![0, 1] bcast_S1x64_S16384x64_0_1 : FArr F S1x64 → FArr F S16384x64),
    binary main_v43 main_v45 main_v46 (addf : FArr F S16384x64 → FArr F S16384x64 → FArr F S16384x64),
    unary main_v46 main_v47 (Host.tanh : FArr F S16384x64 → FArr F S16384x64),
    binary main_v47 main_arg12 main_v48 ((fun l r => Host.dotGeneral dot_S16384x64_S64x128_S16384x128_1_0_0_1_n_n none l r) : FArr F S16384x64 → FArr F S64x128 → FArr F S16384x128),
    unary main_arg13 main_v49 (broadcastInDim S1x128 ![1] bcast_S128_S1x128_1 : FArr F S128 → FArr F S1x128),
    unary main_v49 main_v50 (broadcastInDim S16384x128 ![0, 1] bcast_S1x128_S16384x128_0_1 : FArr F S1x128 → FArr F S16384x128),
    binary main_v48 main_v50 main_v51 (addf : FArr F S16384x128 → FArr F S16384x128 → FArr F S16384x128) ]

/-- The operations of @main that compute the relative error and the cosine similarity. -/
abbrev opsErr : List (HloOp τ sig (Elt F)) :=
  [ binary main_arg0 main_v51 main_v52 (subf : FArr F S16384x128 → FArr F S16384x128 → FArr F S16384x128),
    TRef.binary (TRef.of (T := ⟨S16384x128, .f32⟩) main_v52) (TRef.of (T := ⟨S16384x128, .f32⟩) main_v52) (TRef.of (T := ⟨S16384x128, .f32⟩) main_call3_v0) mulf,
    TRef.nullary (TRef.of (T := ⟨S_, .f32⟩) main_call3_cst) (constant S_ .f32 0x00000000#32),
    TRef.binary (TRef.of (T := ⟨S16384x128, .f32⟩) main_call3_v0) (TRef.of (T := ⟨S_, .f32⟩) main_call3_cst) (TRef.of (T := ⟨S16384, .f32⟩) main_call3_v1) (fun x v => Host.reduceAdd x v reducesTo_S16384x128_S16384_d1 h_S_),
    TRef.unary (TRef.of (T := ⟨S16384, .f32⟩) main_call3_v1) (TRef.of (T := ⟨S16384, .f32⟩) main_v53) Host.sqrt,
    TRef.binary (TRef.of (T := ⟨S16384x128, .f32⟩) main_arg0) (TRef.of (T := ⟨S16384x128, .f32⟩) main_arg0) (TRef.of (T := ⟨S16384x128, .f32⟩) main_call4_v0) mulf,
    TRef.nullary (TRef.of (T := ⟨S_, .f32⟩) main_call4_cst) (constant S_ .f32 0x00000000#32),
    TRef.binary (TRef.of (T := ⟨S16384x128, .f32⟩) main_call4_v0) (TRef.of (T := ⟨S_, .f32⟩) main_call4_cst) (TRef.of (T := ⟨S16384, .f32⟩) main_call4_v1) (fun x v => Host.reduceAdd x v reducesTo_S16384x128_S16384_d1 h_S_),
    TRef.unary (TRef.of (T := ⟨S16384, .f32⟩) main_call4_v1) (TRef.of (T := ⟨S16384, .f32⟩) main_v54) Host.sqrt,
    TRef.binary (TRef.of (T := ⟨S16384x128, .f32⟩) main_v51) (TRef.of (T := ⟨S16384x128, .f32⟩) main_v51) (TRef.of (T := ⟨S16384x128, .f32⟩) main_call5_v0) mulf,
    TRef.nullary (TRef.of (T := ⟨S_, .f32⟩) main_call5_cst) (constant S_ .f32 0x00000000#32),
    TRef.binary (TRef.of (T := ⟨S16384x128, .f32⟩) main_call5_v0) (TRef.of (T := ⟨S_, .f32⟩) main_call5_cst) (TRef.of (T := ⟨S16384, .f32⟩) main_call5_v1) (fun x v => Host.reduceAdd x v reducesTo_S16384x128_S16384_d1 h_S_),
    TRef.unary (TRef.of (T := ⟨S16384, .f32⟩) main_call5_v1) (TRef.of (T := ⟨S16384, .f32⟩) main_v55) Host.sqrt,
    nullary main_cst_4 (constant S_ .f32 0x2B8CBCCC#32),
    unary main_cst_4 main_v56 (broadcastInDim S16384 ![] bcast_S_S16384 : FArr F S_ → FArr F S16384),
    binary main_v54 main_v56 main_v57 (addf : FArr F S16384 → FArr F S16384 → FArr F S16384),
    binary main_v53 main_v57 main_v58 (Host.divf : FArr F S16384 → FArr F S16384 → FArr F S16384),
    binary main_arg0 main_v51 main_v59 (mulf : FArr F S16384x128 → FArr F S16384x128 → FArr F S16384x128),
    nullary main_cst_5 (constant S_ .f32 0x00000000#32),
    binary main_v59 main_cst_5 main_v60 ((fun x v => Host.reduceAdd x v reducesTo_S16384x128_S16384_d1 h_S_) : FArr F S16384x128 → FArr F S_ → FArr F S16384),
    binary main_v54 main_v55 main_v61 (mulf : FArr F S16384 → FArr F S16384 → FArr F S16384),
    nullary main_cst_6 (constant S_ .f32 0x2B8CBCCC#32),
    unary main_cst_6 main_v62 (broadcastInDim S16384 ![] bcast_S_S16384 : FArr F S_ → FArr F S16384),
    binary main_v61 main_v62 main_v63 (addf : FArr F S16384 → FArr F S16384 → FArr F S16384),
    binary main_v60 main_v63 main_v64 (Host.divf : FArr F S16384 → FArr F S16384 → FArr F S16384) ]

/-- The operations of @main that compute the gate, before its softmax. -/
abbrev opsLogit : List (HloOp τ sig (Elt F)) :=
  [ unary main_v58 main_v65 (broadcastInDim S16384x1 ![0] bcast_S16384_S16384x1_0 : FArr F S16384 → FArr F S16384x1),
    unary main_v64 main_v66 (broadcastInDim S16384x1 ![0] bcast_S16384_S16384x1_0 : FArr F S16384 → FArr F S16384x1),
    nary ![main_v37, main_v65, main_v66, main_v23] main_v67 (fun u => joinFeatures (F := F) (u 0) (u 1) (u 2) (u 3)),
    binary main_v67 main_arg14 main_v68 ((fun l r => Host.dotGeneral dot_S16384x8_S8x10_S16384x10_1_0_0_1_n_n none l r) : FArr F S16384x8 → FArr F S8x10 → FArr F S16384x10),
    unary main_arg15 main_v69 (broadcastInDim S1x10 ![1] bcast_S10_S1x10_1 : FArr F S10 → FArr F S1x10),
    unary main_v69 main_v70 (broadcastInDim S16384x10 ![0, 1] bcast_S1x10_S16384x10_0_1 : FArr F S1x10 → FArr F S16384x10),
    binary main_v68 main_v70 main_v71 (addf : FArr F S16384x10 → FArr F S16384x10 → FArr F S16384x10),
    unary main_v71 main_v72 (Host.tanh : FArr F S16384x10 → FArr F S16384x10),
    binary main_v72 main_arg16 main_v73 ((fun l r => Host.dotGeneral dot_S16384x10_S10x4_S16384x4_1_0_0_1_n_n none l r) : FArr F S16384x10 → FArr F S10x4 → FArr F S16384x4),
    unary main_arg17 main_v74 (broadcastInDim S1x4 ![1] bcast_S4_S1x4_1 : FArr F S4 → FArr F S1x4),
    unary main_v74 main_v75 (broadcastInDim S16384x4 ![0, 1] bcast_S1x4_S16384x4_0_1 : FArr F S1x4 → FArr F S16384x4),
    binary main_v73 main_v75 main_v76 (addf : FArr F S16384x4 → FArr F S16384x4 → FArr F S16384x4) ]

/-- The operations of @main that compute the softmax over the gate. -/
abbrev opsSoftmax : List (HloOp τ sig (Elt F)) :=
  [ nullary main_cst_7 (constant S_ .f32 0xFF800000#32),
    binary main_v76 main_cst_7 main_v77 ((fun x v => Host.reduce FloatOps.maximumf x v reducesTo_S16384x4_S16384_d1 h_S_) : FArr F S16384x4 → FArr F S_ → FArr F S16384),
    nullary main_cst_8 (constant S_ .f32 0xFF800000#32),
    unary main_cst_8 main_v78 (broadcastInDim S16384 ![] bcast_S_S16384 : FArr F S_ → FArr F S16384),
    binary main_v78 main_v77 main_v79 (maximumf : FArr F S16384 → FArr F S16384 → FArr F S16384),
    unary main_v79 main_v80 (broadcastInDim S16384x1 ![0] bcast_S16384_S16384x1_0 : FArr F S16384 → FArr F S16384x1),
    unary main_v80 main_v81 (broadcastInDim S16384x4 ![0, 1] bcast_S16384x1_S16384x4_0_1 : FArr F S16384x1 → FArr F S16384x4),
    binary main_v76 main_v81 main_v82 (subf : FArr F S16384x4 → FArr F S16384x4 → FArr F S16384x4),
    unary main_v82 main_v83 (Host.exp : FArr F S16384x4 → FArr F S16384x4),
    nullary main_cst_9 (constant S_ .f32 0x00000000#32),
    binary main_v83 main_cst_9 main_v84 ((fun x v => Host.reduceAdd x v reducesTo_S16384x4_S16384_d1 h_S_) : FArr F S16384x4 → FArr F S_ → FArr F S16384),
    unary main_v84 main_v85 (broadcastInDim S16384x1 ![0] bcast_S16384_S16384x1_0 : FArr F S16384 → FArr F S16384x1),
    unary main_v85 main_v86 (broadcastInDim S16384x4 ![0, 1] bcast_S16384x1_S16384x4_0_1 : FArr F S16384x1 → FArr F S16384x4),
    binary main_v83 main_v86 main_v87 (Host.divf : FArr F S16384x4 → FArr F S16384x4 → FArr F S16384x4) ]

/-- @main's operations, in order. -/
abbrev ops : List (HloOp τ sig (Elt F)) :=
  opsDist ++ (opsBmu ++ (opsCoord ++ (opsEnc ++ (opsDec ++ (opsErr ++ (opsLogit ++ opsSoftmax))))))

set_option maxRecDepth 8192 in
set_option maxHeartbeats 4000000 in
/-- @main is that line of operations. -/
theorem main_eq (c : Dev nD) : main (F := F) c = seq ops := rfl

/-- No buffer is scoped. -/
theorem scopedRefs_eq : (Finset.univ.filter fun b : Ref sig .tc => b.isScoped) = ∅ := by decide

/-- No semaphore is scoped. -/
theorem scopedSems_eq : (Finset.univ.filter fun sm : SemLoc sig => sm.isScoped .tc) = ∅ := by decide

/-- The operations `opsDist` work on the program's own buffers. -/
theorem opsDist_sub : (opsDist : List (HloOp τ sig (Elt F))).Forall fun op => op.bufs ⊆ tcRefs τ sig :=
  ⟨reshape_bufs_sub .., binary_bufs_sub .., nullary_bufs_sub .., binary_bufs_sub .., unary_bufs_sub .., binary_bufs_sub .., nullary_bufs_sub .., binary_bufs_sub .., unary_bufs_sub .., unary_bufs_sub .., binary_bufs_sub .., nullary_bufs_sub .., unary_bufs_sub .., binary_bufs_sub .., unary_bufs_sub .., binary_bufs_sub .., unary_bufs_sub .., binary_bufs_sub ..⟩

/-- The operations `opsBmu` work on the program's own buffers. -/
theorem opsBmu_sub : (opsBmu : List (HloOp τ sig (Elt F))).Forall fun op => op.bufs ⊆ tcRefs τ sig :=
  ⟨nullary_bufs_sub .., nullary_bufs_sub .., nullary_bufs_sub .., quaternary_bufs_sub .., quaternary_bufs_sub ..⟩

/-- The operations `opsCoord` work on the program's own buffers. -/
theorem opsCoord_sub : (opsCoord : List (HloOp τ sig (Elt F))).Forall fun op => op.bufs ⊆ tcRefs τ sig :=
  ⟨nullary_bufs_sub .., unary_bufs_sub .., unary_bufs_sub .., binary_bufs_sub .., unary_bufs_sub .., unary_bufs_sub .., unary_bufs_sub .., binary_bufs_sub .., unary_bufs_sub .., binary_bufs_sub .., nullary_bufs_sub .., unary_bufs_sub .., binary_bufs_sub .., binary_bufs_sub .., nullary_bufs_sub .., unary_bufs_sub .., binary_bufs_sub .., ternary_bufs_sub .., nullary_bufs_sub .., unary_bufs_sub .., nullary_bufs_sub .., binary_bufs_sub .., nullary_bufs_sub .., ternary_bufs_sub .., unary_bufs_sub .., binary_bufs_sub .., nullary_bufs_sub .., unary_bufs_sub .., binary_bufs_sub .., nullary_bufs_sub .., unary_bufs_sub .., binary_bufs_sub .., nullary_bufs_sub .., binary_bufs_sub .., unary_bufs_sub .., binary_bufs_sub .., binary_bufs_sub .., unary_bufs_sub .., binary_bufs_sub .., ternary_bufs_sub .., unary_bufs_sub .., unary_bufs_sub .., binary_bufs_sub .., unary_bufs_sub .., nullary_bufs_sub .., unary_bufs_sub .., binary_bufs_sub ..⟩

/-- The operations `opsEnc` work on the program's own buffers. -/
theorem opsEnc_sub : (opsEnc : List (HloOp τ sig (Elt F))).Forall fun op => op.bufs ⊆ tcRefs τ sig :=
  ⟨binary_bufs_sub .., unary_bufs_sub .., unary_bufs_sub .., binary_bufs_sub .., unary_bufs_sub .., binary_bufs_sub .., unary_bufs_sub .., unary_bufs_sub .., binary_bufs_sub .., unary_bufs_sub .., binary_bufs_sub .., unary_bufs_sub .., unary_bufs_sub .., binary_bufs_sub ..⟩

/-- The operations `opsDec` work on the program's own buffers. -/
theorem opsDec_sub : (opsDec : List (HloOp τ sig (Elt F))).Forall fun op => op.bufs ⊆ tcRefs τ sig :=
  ⟨binary_bufs_sub .., unary_bufs_sub .., unary_bufs_sub .., binary_bufs_sub .., unary_bufs_sub .., binary_bufs_sub .., unary_bufs_sub .., unary_bufs_sub .., binary_bufs_sub .., unary_bufs_sub .., binary_bufs_sub .., unary_bufs_sub .., unary_bufs_sub .., binary_bufs_sub ..⟩

/-- The operations `opsErr` work on the program's own buffers. -/
theorem opsErr_sub : (opsErr : List (HloOp τ sig (Elt F))).Forall fun op => op.bufs ⊆ tcRefs τ sig :=
  ⟨binary_bufs_sub .., binary_bufs_sub .., nullary_bufs_sub .., binary_bufs_sub .., unary_bufs_sub .., binary_bufs_sub .., nullary_bufs_sub .., binary_bufs_sub .., unary_bufs_sub .., binary_bufs_sub .., nullary_bufs_sub .., binary_bufs_sub .., unary_bufs_sub .., nullary_bufs_sub .., unary_bufs_sub .., binary_bufs_sub .., binary_bufs_sub .., binary_bufs_sub .., nullary_bufs_sub .., binary_bufs_sub .., binary_bufs_sub .., nullary_bufs_sub .., unary_bufs_sub .., binary_bufs_sub .., binary_bufs_sub ..⟩

/-- The operations `opsLogit` work on the program's own buffers. -/
theorem opsLogit_sub : (opsLogit : List (HloOp τ sig (Elt F))).Forall fun op => op.bufs ⊆ tcRefs τ sig :=
  ⟨unary_bufs_sub .., unary_bufs_sub .., nary_bufs_sub .., binary_bufs_sub .., unary_bufs_sub .., unary_bufs_sub .., binary_bufs_sub .., unary_bufs_sub .., binary_bufs_sub .., unary_bufs_sub .., unary_bufs_sub .., binary_bufs_sub ..⟩

/-- The operations `opsSoftmax` work on the program's own buffers. -/
theorem opsSoftmax_sub : (opsSoftmax : List (HloOp τ sig (Elt F))).Forall fun op => op.bufs ⊆ tcRefs τ sig :=
  ⟨nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub ..⟩

set_option maxRecDepth 8192 in
/-- Every operation works on the program's own buffers. -/
theorem ops_sub : (ops : List (HloOp τ sig (Elt F))).Forall fun op => op.bufs ⊆ tcRefs τ sig := by
  simp only [ops, List.forall_append]
  exact ⟨opsDist_sub, opsBmu_sub, opsCoord_sub, opsEnc_sub, opsDec_sub, opsErr_sub, opsLogit_sub, opsSoftmax_sub⟩

set_option maxRecDepth 8192 in
set_option maxHeartbeats 4000000 in
/-- What `opsDist` leaves in `main_v14`. -/
theorem opsDist_v14 (V : Valuation τ sig (Elt F)) :
    after opsDist V (Proc.devRef .tc main_v14) = dist (V (Proc.devRef .tc main_arg0)) (V (Proc.devRef .tc main_arg1)) := by
  after_reads_simp
  rfl

set_option maxRecDepth 8192 in
set_option maxHeartbeats 4000000 in
/-- What `opsBmu` leaves in `main_v15`. -/
theorem opsBmu_v15 (V : Valuation τ sig (Elt F)) :
    after opsBmu V (Proc.devRef .tc main_v15) = bmu (V (Proc.devRef .tc main_v14)) := by
  after_reads_simp
  rfl

set_option maxRecDepth 8192 in
set_option maxHeartbeats 4000000 in
/-- What `opsCoord` leaves in `main_v23`. -/
theorem opsCoord_v23 (V : Valuation τ sig (Elt F)) :
    after opsCoord V (Proc.devRef .tc main_v23) = coords (V (Proc.devRef .tc main_v15)) := by
  after_reads_simp
  rfl

set_option maxRecDepth 8192 in
set_option maxHeartbeats 4000000 in
/-- What `opsEnc` leaves in `main_v37`. -/
theorem opsEnc_v37 (V : Valuation τ sig (Elt F)) :
    after opsEnc V (Proc.devRef .tc main_v37) = encode (V (Proc.devRef .tc main_arg0)) (V (Proc.devRef .tc main_arg2)) (V (Proc.devRef .tc main_arg3)) (V (Proc.devRef .tc main_arg4)) (V (Proc.devRef .tc main_arg5)) (V (Proc.devRef .tc main_arg6)) (V (Proc.devRef .tc main_arg7)) := by
  after_reads_simp
  rfl

set_option maxRecDepth 8192 in
set_option maxHeartbeats 4000000 in
/-- What `opsDec` leaves in `main_v51`. -/
theorem opsDec_v51 (V : Valuation τ sig (Elt F)) :
    after opsDec V (Proc.devRef .tc main_v51) = decode (V (Proc.devRef .tc main_v37)) (V (Proc.devRef .tc main_arg8)) (V (Proc.devRef .tc main_arg9)) (V (Proc.devRef .tc main_arg10)) (V (Proc.devRef .tc main_arg11)) (V (Proc.devRef .tc main_arg12)) (V (Proc.devRef .tc main_arg13)) := by
  after_reads_simp
  rfl

set_option maxRecDepth 8192 in
set_option maxHeartbeats 4000000 in
/-- What `opsErr` leaves in `main_v58`. -/
theorem opsErr_v58 (V : Valuation τ sig (Elt F)) :
    after opsErr V (Proc.devRef .tc main_v58) = relErr (V (Proc.devRef .tc main_arg0)) (V (Proc.devRef .tc main_v51)) := by
  after_reads_simp
  rfl

set_option maxRecDepth 8192 in
set_option maxHeartbeats 4000000 in
/-- What `opsErr` leaves in `main_v64`. -/
theorem opsErr_v64 (V : Valuation τ sig (Elt F)) :
    after opsErr V (Proc.devRef .tc main_v64) = cosSim (V (Proc.devRef .tc main_arg0)) (V (Proc.devRef .tc main_v51)) := by
  after_reads_simp
  rfl

set_option maxRecDepth 8192 in
set_option maxHeartbeats 4000000 in
/-- What `opsLogit` leaves in `main_v76`. -/
theorem opsLogit_v76 (V : Valuation τ sig (Elt F)) :
    after opsLogit V (Proc.devRef .tc main_v76) = gate (V (Proc.devRef .tc main_v37)) (V (Proc.devRef .tc main_v58)) (V (Proc.devRef .tc main_v64)) (V (Proc.devRef .tc main_v23)) (V (Proc.devRef .tc main_arg14)) (V (Proc.devRef .tc main_arg15)) (V (Proc.devRef .tc main_arg16)) (V (Proc.devRef .tc main_arg17)) := by
  after_reads_simp
  rfl

set_option maxRecDepth 8192 in
set_option maxHeartbeats 4000000 in
/-- What `opsSoftmax` leaves in `main_v87`. -/
theorem opsSoftmax_v87 (V : Valuation τ sig (Elt F)) :
    after opsSoftmax V (Proc.devRef .tc main_v87) = softmaxRows (V (Proc.devRef .tc main_v76)) := by
  after_reads_simp
  rfl

/-- The buffers `opsDist` writes. -/
abbrev writesDist : List (Ref sig .tc) :=
  [main_v0, main_v1, main_cst, main_v2, main_v3, main_v4, main_cst_0, main_v5, main_v6, main_v7, main_v8, main_cst_1, main_v9, main_v10, main_v11, main_v12, main_v13, main_v14]

/-- `opsDist` leaves every other buffer as it was. -/
theorem opsDist_keep (V : Valuation τ sig (Elt F)) (r : Ref sig .tc) (h : r ∉ writesDist) :
    after opsDist V (no_index (Proc.devRef .tc r)) = V (Proc.devRef .tc r) :=
  after_unwritten writesDist rfl h V

/-- The buffers `opsBmu` writes. -/
abbrev writesBmu : List (Ref sig .tc) :=
  [main_call0_v0, main_call0_cst, main_call0_c, main_call0_v1_0, main_v15]

/-- `opsBmu` leaves every other buffer as it was. -/
theorem opsBmu_keep (V : Valuation τ sig (Elt F)) (r : Ref sig .tc) (h : r ∉ writesBmu) :
    after opsBmu V (no_index (Proc.devRef .tc r)) = V (Proc.devRef .tc r) :=
  after_unwritten writesBmu rfl h V

/-- The buffers `opsCoord` writes. -/
abbrev writesCoord : List (Ref sig .tc) :=
  [main_c, main_call1_v0, main_call1_v1, main_call1_v2, main_call1_v3, main_call1_v4, main_call1_v5, main_call1_v6, main_call1_v7, main_call1_v8, main_call1_c, main_call1_v9, main_call1_v10, main_call1_v11, main_call1_c_0, main_call1_v12, main_call1_v13, main_v16, main_c_2, main_call2_v0, main_call2_c, main_call2_v1, main_call2_c_0, main_call2_v2, main_call2_v3, main_call2_v4, main_call2_c_1, main_call2_v5, main_call2_v6, main_call2_c_2, main_call2_v7, main_call2_v8, main_call2_c_3, main_call2_v9, main_call2_v10, main_call2_v11, main_call2_v12, main_call2_v13, main_call2_v14, main_v17, main_v18, main_v19, main_v20, main_v21, main_cst_3, main_v22, main_v23]

/-- `opsCoord` leaves every other buffer as it was. -/
theorem opsCoord_keep (V : Valuation τ sig (Elt F)) (r : Ref sig .tc) (h : r ∉ writesCoord) :
    after opsCoord V (no_index (Proc.devRef .tc r)) = V (Proc.devRef .tc r) :=
  after_unwritten writesCoord rfl h V

/-- The buffers `opsEnc` writes. -/
abbrev writesEnc : List (Ref sig .tc) :=
  [main_v24, main_v25, main_v26, main_v27, main_v28, main_v29, main_v30, main_v31, main_v32, main_v33, main_v34, main_v35, main_v36, main_v37]

/-- `opsEnc` leaves every other buffer as it was. -/
theorem opsEnc_keep (V : Valuation τ sig (Elt F)) (r : Ref sig .tc) (h : r ∉ writesEnc) :
    after opsEnc V (no_index (Proc.devRef .tc r)) = V (Proc.devRef .tc r) :=
  after_unwritten writesEnc rfl h V

/-- The buffers `opsDec` writes. -/
abbrev writesDec : List (Ref sig .tc) :=
  [main_v38, main_v39, main_v40, main_v41, main_v42, main_v43, main_v44, main_v45, main_v46, main_v47, main_v48, main_v49, main_v50, main_v51]

/-- `opsDec` leaves every other buffer as it was. -/
theorem opsDec_keep (V : Valuation τ sig (Elt F)) (r : Ref sig .tc) (h : r ∉ writesDec) :
    after opsDec V (no_index (Proc.devRef .tc r)) = V (Proc.devRef .tc r) :=
  after_unwritten writesDec rfl h V

/-- The buffers `opsErr` writes. -/
abbrev writesErr : List (Ref sig .tc) :=
  [main_v52, main_call3_v0, main_call3_cst, main_call3_v1, main_v53, main_call4_v0, main_call4_cst, main_call4_v1, main_v54, main_call5_v0, main_call5_cst, main_call5_v1, main_v55, main_cst_4, main_v56, main_v57, main_v58, main_v59, main_cst_5, main_v60, main_v61, main_cst_6, main_v62, main_v63, main_v64]

/-- `opsErr` leaves every other buffer as it was. -/
theorem opsErr_keep (V : Valuation τ sig (Elt F)) (r : Ref sig .tc) (h : r ∉ writesErr) :
    after opsErr V (no_index (Proc.devRef .tc r)) = V (Proc.devRef .tc r) :=
  after_unwritten writesErr rfl h V

/-- The buffers `opsLogit` writes. -/
abbrev writesLogit : List (Ref sig .tc) :=
  [main_v65, main_v66, main_v67, main_v68, main_v69, main_v70, main_v71, main_v72, main_v73, main_v74, main_v75, main_v76]

/-- `opsLogit` leaves every other buffer as it was. -/
theorem opsLogit_keep (V : Valuation τ sig (Elt F)) (r : Ref sig .tc) (h : r ∉ writesLogit) :
    after opsLogit V (no_index (Proc.devRef .tc r)) = V (Proc.devRef .tc r) :=
  after_unwritten writesLogit rfl h V

/-- The buffers `opsSoftmax` writes. -/
abbrev writesSoftmax : List (Ref sig .tc) :=
  [main_cst_7, main_v77, main_cst_8, main_v78, main_v79, main_v80, main_v81, main_v82, main_v83, main_cst_9, main_v84, main_v85, main_v86, main_v87]

/-- `opsSoftmax` leaves every other buffer as it was. -/
theorem opsSoftmax_keep (V : Valuation τ sig (Elt F)) (r : Ref sig .tc) (h : r ∉ writesSoftmax) :
    after opsSoftmax V (no_index (Proc.devRef .tc r)) = V (Proc.devRef .tc r) :=
  after_unwritten writesSoftmax rfl h V

/-- One line run after another. -/
theorem after_two (l₁ l₂ : List (HloOp τ sig (Elt F))) (V : Valuation τ sig (Elt F)) :
    after (l₁ ++ l₂) V = after l₂ (after l₁ V) := by
  induction l₁ generalizing V with
  | nil => rfl
  | cons op l ih => exact ih _

/-- A buffer no operation writes ends as it began. -/
theorem ops_keep (V : Valuation τ sig (Elt F)) (r : Ref sig .tc)
    (h : r ∉ writesDist ++ (writesBmu ++ (writesCoord ++ (writesEnc ++ (writesDec ++ (writesErr ++ (writesLogit ++ writesSoftmax))))))) :
    after ops V (Proc.devRef .tc r) = V (Proc.devRef .tc r) := by
  simp only [List.mem_append, not_or] at h
  obtain ⟨h0, h1, h2, h3, h4, h5, h6, h7⟩ := h
  simp only [ops, after_two]
  rw [opsSoftmax_keep _ _ h7, opsLogit_keep _ _ h6, opsErr_keep _ _ h5, opsDec_keep _ _ h4, opsEnc_keep _ _ h3,
    opsCoord_keep _ _ h2, opsBmu_keep _ _ h1, opsDist_keep _ _ h0]

/-- The encoding of every row. -/
def code (m : (ℓ : Loc nD τ sig) → Buf (Elt F) ℓ) (c : Dev nD) : FArr F S16384x4 :=
  encode (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))

/-- The reconstruction of every row. -/
def recon (m : (ℓ : Loc nD τ sig) → Buf (Elt F) ℓ) (c : Dev nD) : FArr F S16384x128 :=
  decode (code m c) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13))

/-- The gate of every row, before its softmax. -/
def gates (m : (ℓ : Loc nD τ sig) → Buf (Elt F) ℓ) (c : Dev nD) : FArr F S16384x4 :=
  gate (code m c) (relErr (m ((c.tc : Thread nD τ).loc main_arg0)) (recon m c)) (cosSim (m ((c.tc : Thread nD τ).loc main_arg0)) (recon m c))
    (coords (bmu (dist (m ((c.tc : Thread nD τ).loc main_arg0)) (m ((c.tc : Thread nD τ).loc main_arg1))))) (m ((c.tc : Thread nD τ).loc main_arg14)) (m ((c.tc : Thread nD τ).loc main_arg15)) (m ((c.tc : Thread nD τ).loc main_arg16)) (m ((c.tc : Thread nD τ).loc main_arg17))

/-- The reference's result. -/
def res (m : (ℓ : Loc nD τ sig) → Buf (Elt F) ℓ) (c : Dev nD) : FArr F S16384x4 := softmaxRows (gates m c)

set_option maxRecDepth 8192 in
set_option maxHeartbeats 4000000 in
/-- The line leaves the reference's result in its last buffer. -/
theorem ops_result (m : (ℓ : Loc nD τ sig) → Buf (Elt F) ℓ) (c : Dev nD) :
    after ops (launchContents m c) (Proc.devRef .tc main_v87) = res m c := by
  simp only [ops, after_two]
  rw [opsSoftmax_v87, opsLogit_v76, opsErr_v58, opsErr_v64]
  simp (disch := decide) only [opsLogit_keep, opsErr_keep]
  rw [opsDec_v51]
  simp (disch := decide) only [opsDec_keep]
  rw [opsEnc_v37]
  simp (disch := decide) only [opsEnc_keep]
  rw [opsCoord_v23]
  simp (disch := decide) only [opsCoord_keep]
  rw [opsBmu_v15]
  simp (disch := decide) only [opsBmu_keep]
  rw [opsDist_v14]
  simp (disch := decide) only [opsDist_keep]
  rfl

set_option maxRecDepth 8192 in
/-- Every execution of the reference terminates with its result at `res`, its arguments unchanged and every semaphore
at zero. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v87) = res m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17) :=
  (θ_run defs _ _).mono (fun _ h c => ⟨(h c main_v87).trans (ops_result m c),
      (h c main_arg0).trans (ops_keep _ _ (by decide)),
      (h c main_arg1).trans (ops_keep _ _ (by decide)),
      (h c main_arg2).trans (ops_keep _ _ (by decide)),
      (h c main_arg3).trans (ops_keep _ _ (by decide)),
      (h c main_arg4).trans (ops_keep _ _ (by decide)),
      (h c main_arg5).trans (ops_keep _ _ (by decide)),
      (h c main_arg6).trans (ops_keep _ _ (by decide)),
      (h c main_arg7).trans (ops_keep _ _ (by decide)),
      (h c main_arg8).trans (ops_keep _ _ (by decide)),
      (h c main_arg9).trans (ops_keep _ _ (by decide)),
      (h c main_arg10).trans (ops_keep _ _ (by decide)),
      (h c main_arg11).trans (ops_keep _ _ (by decide)),
      (h c main_arg12).trans (ops_keep _ _ (by decide)),
      (h c main_arg13).trans (ops_keep _ _ (by decide)),
      (h c main_arg14).trans (ops_keep _ _ (by decide)),
      (h c main_arg15).trans (ops_keep _ _ (by decide)),
      (h c main_arg16).trans (ops_keep _ _ (by decide)),
      (h c main_arg17).trans (ops_keep _ _ (by decide))⟩)
    (run_seq scopedRefs_eq scopedSems_eq defs main (fun _ => ops) main_eq (fun _ => ops_sub) m ρ)

end Cert.ReferenceIdeal.Hand

end
-- ==== Proof.Small.lean ====
module

public import proofs.«01_k».proof.Defs
public import proofs.«01_k».proof.Proof.ReferenceRun
public import Idealize.ShloMosaic.Lib.Quiescent

/-! The reference's frame, and the one named constant. -/

@[expose] public section

namespace Cert.Hand

open Idealize.ShloMosaic

/-- The reference runs, leaves its arguments unchanged and ends with every semaphore at zero: it has none. -/
theorem frame_reference : @Cert.quiescent_ReferenceIdeal Cert.ReferenceIdeal.Gen.facts := by
  intro m ρ _
  exact (θ_run Cert.ReferenceIdeal.defs _ _).mono (fun r h => ⟨fun c => (h c).2, sem_eq_zero_of_no_sems (by decide) r.2⟩)
    (Cert.ReferenceIdeal.Hand.run (F := Ideal) m ρ)

/-- The kernel's constant named `tenth` is a tenth over the extended reals. -/
theorem preserves : Cert.preserves_Kernel_KernelIdeal :=
  IdealRules.named_const.statement Cert.KernelIdeal.κ "tenth" .f32 0x3DCCCCCD#32 ((1 / 10 : ℝ) : EReal) rfl

end Cert.Hand
-- ==== Proof.KernelIdealRun.lean ====
module

public import proofs.«01_k».proof.Proof.KernelIdealFrame
public import Idealize.ShloMosaic.Lib.StableHlo.RunRead

/-! The idealized kernel's result from its arguments: the host's reshapes before the region only lay the map's weights
out as a matrix and the biases as rows. -/

@[expose] public section

noncomputable section

namespace Cert.KernelIdeal.Hand

open Cert.KernelIdeal Cert.KernelIdeal.Gen
open Idealize.ShloMosaic Idealize.ShloMosaic.TcCoe Idealize.SL.Sem Idealize.ShloMosaic.StableHlo

variable {F : FTy → Type} [FloatOps F] [Named F]

variable (m : (ℓ : Loc nD τ sig) → Buf (Elt F) ℓ) (ρ : Dev nD → PrngReg)

/-- An argument's contents at launch. -/
abbrev arg (c : Dev nD) (b : Ref sig .tc) : Buf (Elt F) ((c : Thread nD τ).loc b) := m ((c : Thread nD τ).loc b)

/-- The region finds `main_arg1` reshaped in `main_v0`. -/
theorem V_main_v0 (c : Dev nD) : V m c main_v0 = (shapeCast S100x128 (arg m c main_arg1 : Arr F S10x10x128) shapeCasts_S10x10x128_S100x128 : Arr F S100x128) := by
  show after hostOps0 _ (Proc.devRef .tc main_v0) = _
  after_reads_simp
  rfl

/-- The region finds `main_arg3` reshaped in `main_v1`. -/
theorem V_main_v1 (c : Dev nD) : V m c main_v1 = (shapeCast S1x64 (arg m c main_arg3 : Arr F S64) shapeCasts_S64_S1x64 : Arr F S1x64) := by
  show after hostOps0 _ (Proc.devRef .tc main_v1) = _
  after_reads_simp
  rfl

/-- The region finds `main_arg5` reshaped in `main_v2`. -/
theorem V_main_v2 (c : Dev nD) : V m c main_v2 = (shapeCast S1x32 (arg m c main_arg5 : Arr F S32) shapeCasts_S32_S1x32 : Arr F S1x32) := by
  show after hostOps0 _ (Proc.devRef .tc main_v2) = _
  after_reads_simp
  rfl

/-- The region finds `main_arg7` reshaped in `main_v3`. -/
theorem V_main_v3 (c : Dev nD) : V m c main_v3 = (shapeCast S1x4 (arg m c main_arg7 : Arr F S4) shapeCasts_S4_S1x4 : Arr F S1x4) := by
  show after hostOps0 _ (Proc.devRef .tc main_v3) = _
  after_reads_simp
  rfl

/-- The region finds `main_arg9` reshaped in `main_v4`. -/
theorem V_main_v4 (c : Dev nD) : V m c main_v4 = (shapeCast S1x32 (arg m c main_arg9 : Arr F S32) shapeCasts_S32_S1x32 : Arr F S1x32) := by
  show after hostOps0 _ (Proc.devRef .tc main_v4) = _
  after_reads_simp
  rfl

/-- The region finds `main_arg11` reshaped in `main_v5`. -/
theorem V_main_v5 (c : Dev nD) : V m c main_v5 = (shapeCast S1x64 (arg m c main_arg11 : Arr F S64) shapeCasts_S64_S1x64 : Arr F S1x64) := by
  show after hostOps0 _ (Proc.devRef .tc main_v5) = _
  after_reads_simp
  rfl

/-- The region finds `main_arg13` reshaped in `main_v6`. -/
theorem V_main_v6 (c : Dev nD) : V m c main_v6 = (shapeCast S1x128 (arg m c main_arg13 : Arr F S128) shapeCasts_S128_S1x128 : Arr F S1x128) := by
  show after hostOps0 _ (Proc.devRef .tc main_v6) = _
  after_reads_simp
  rfl

/-- The region finds `main_arg15` reshaped in `main_v7`. -/
theorem V_main_v7 (c : Dev nD) : V m c main_v7 = (shapeCast S1x10 (arg m c main_arg15 : Arr F S10) shapeCasts_S10_S1x10 : Arr F S1x10) := by
  show after hostOps0 _ (Proc.devRef .tc main_v7) = _
  after_reads_simp
  rfl

/-- The region finds `main_arg17` reshaped in `main_v8`. -/
theorem V_main_v8 (c : Dev nD) : V m c main_v8 = (shapeCast S1x4 (arg m c main_arg17 : Arr F S4) shapeCasts_S4_S1x4 : Arr F S1x4) := by
  show after hostOps0 _ (Proc.devRef .tc main_v8) = _
  after_reads_simp
  rfl

/-- The result from the arguments. -/
def out (c : Dev nD) : BufOf (F := F) c main_v9 :=
  result c (arg m c main_arg0)
    (shapeCast S100x128 (arg m c main_arg1 : Arr F S10x10x128) shapeCasts_S10x10x128_S100x128 : Arr F S100x128)
    (arg m c main_arg2)
    (shapeCast S1x64 (arg m c main_arg3 : Arr F S64) shapeCasts_S64_S1x64 : Arr F S1x64)
    (arg m c main_arg4)
    (shapeCast S1x32 (arg m c main_arg5 : Arr F S32) shapeCasts_S32_S1x32 : Arr F S1x32)
    (arg m c main_arg6)
    (shapeCast S1x4 (arg m c main_arg7 : Arr F S4) shapeCasts_S4_S1x4 : Arr F S1x4)
    (arg m c main_arg8)
    (shapeCast S1x32 (arg m c main_arg9 : Arr F S32) shapeCasts_S32_S1x32 : Arr F S1x32)
    (arg m c main_arg10)
    (shapeCast S1x64 (arg m c main_arg11 : Arr F S64) shapeCasts_S64_S1x64 : Arr F S1x64)
    (arg m c main_arg12)
    (shapeCast S1x128 (arg m c main_arg13 : Arr F S128) shapeCasts_S128_S1x128 : Arr F S1x128)
    (arg m c main_arg14)
    (shapeCast S1x10 (arg m c main_arg15 : Arr F S10) shapeCasts_S10_S1x10 : Arr F S1x10)
    (arg m c main_arg16)
    (shapeCast S1x4 (arg m c main_arg17 : Arr F S4) shapeCasts_S4_S1x4 : Arr F S1x4)

/-- The result is a function of its eighteen operands. -/
theorem result_congr (c : Dev nD)
    {f0 g0 : BufOf (F := F) c main_arg0} (h0 : f0 = g0)
    {f1 g1 : BufOf (F := F) c main_v0} (h1 : f1 = g1)
    {f2 g2 : BufOf (F := F) c main_arg2} (h2 : f2 = g2)
    {f3 g3 : BufOf (F := F) c main_v1} (h3 : f3 = g3)
    {f4 g4 : BufOf (F := F) c main_arg4} (h4 : f4 = g4)
    {f5 g5 : BufOf (F := F) c main_v2} (h5 : f5 = g5)
    {f6 g6 : BufOf (F := F) c main_arg6} (h6 : f6 = g6)
    {f7 g7 : BufOf (F := F) c main_v3} (h7 : f7 = g7)
    {f8 g8 : BufOf (F := F) c main_arg8} (h8 : f8 = g8)
    {f9 g9 : BufOf (F := F) c main_v4} (h9 : f9 = g9)
    {f10 g10 : BufOf (F := F) c main_arg10} (h10 : f10 = g10)
    {f11 g11 : BufOf (F := F) c main_v5} (h11 : f11 = g11)
    {f12 g12 : BufOf (F := F) c main_arg12} (h12 : f12 = g12)
    {f13 g13 : BufOf (F := F) c main_v6} (h13 : f13 = g13)
    {f14 g14 : BufOf (F := F) c main_arg14} (h14 : f14 = g14)
    {f15 g15 : BufOf (F := F) c main_v7} (h15 : f15 = g15)
    {f16 g16 : BufOf (F := F) c main_arg16} (h16 : f16 = g16)
    {f17 g17 : BufOf (F := F) c main_v8} (h17 : f17 = g17)
    : result c f0 f1 f2 f3 f4 f5 f6 f7 f8 f9 f10 f11 f12 f13 f14 f15 f16 f17 = result c g0 g1 g2 g3 g4 g5 g6 g7 g8 g9 g10 g11 g12 g13 g14 g15 g16 g17 := by
  subst h0 h1 h2 h3 h4 h5 h6 h7 h8 h9 h10 h11 h12 h13 h14 h15 h16 h17
  rfl

/-- What the region leaves in the result is that. -/
theorem G_eq (c : Dev nD) : G m c main_v9 = out m c :=
  (G_main_v9 m c).trans (result_congr c (V_main_arg0 m c) (V_main_v0 m c) (V_main_arg2 m c) (V_main_v1 m c) (V_main_arg4 m c) (V_main_v2 m c) (V_main_arg6 m c) (V_main_v3 m c) (V_main_arg8 m c) (V_main_v4 m c) (V_main_arg10 m c) (V_main_v5 m c) (V_main_arg12 m c) (V_main_v6 m c) (V_main_arg14 m c) (V_main_v7 m c) (V_main_arg16 m c) (V_main_v8 m c))

end Cert.KernelIdeal.Hand
-- ==== Proof.Rows.lean ====
module

public import Idealize.ShloMosaic.Lib.Pointwise
public import Idealize.ShloMosaic.PureOps.Ideal.Laws

/-! One sample's computation over the extended reals, as both programs make it: linear layers, their activations, and
the softmax of the gate. -/

@[expose] public section

noncomputable section

namespace Cert.Hand

open Idealize.ShloMosaic

/-- A linear layer: the input times the weights, plus the bias. -/
def lin {p q : ℕ} (w : Fin p → Fin q → EReal) (b : Fin q → EReal) (a : Fin p → EReal) : Fin q → EReal :=
  fun j => (∑ k, a k * w k j) + b j

/-- A linear layer under the hyperbolic tangent. -/
def layer {p q : ℕ} (w : Fin p → Fin q → EReal) (b : Fin q → EReal) (a : Fin p → EReal) : Fin q → EReal :=
  fun j => Ideal.tanh (lin w b a j)

/-- A matrix by its two coordinates. -/
abbrev mat {p q : ℕ} (a : (⟨2, ![p, q]⟩ : Shape).Idx → EReal) : Fin p → Fin q → EReal := fun i j => a (ix2 i j)

/-- A vector by its coordinate. -/
abbrev vec {p : ℕ} (a : (⟨1, ![p]⟩ : Shape).Idx → EReal) : Fin p → EReal := fun i => a (ix1 i)

/-- The gate's eight inputs in order: the code, the error, the cosine, the two coordinates. -/
def features (z : Fin 4 → EReal) (e s i j : EReal) : Fin 8 → EReal :=
  fun k => if h : k.val < 4 then z ⟨k.val, h⟩ else if k.val < 5 then e else if k.val < 6 then s else if k.val < 7 then i else j

/-- A softmax over four numbers. -/
def softmax (l : Fin 4 → EReal) : Fin 4 → EReal := fun q =>
  Ideal.div (Ideal.exp (l q - Finset.univ.fold max ⊥ l)) (∑ p, Ideal.exp (l p - Finset.univ.fold max ⊥ l))

/-- The single-precision word for two. -/
theorem ofBits_two : Ideal.ofBits .f32 0x40000000#32 = ((2 : ℝ) : EReal) := by
  simp [Ideal.ofBits, Ideal.ieee, -EReal.coe_mul]; norm_num

/-- The single-precision word for minus two. -/
theorem ofBits_neg_two : Ideal.ofBits .f32 0xC0000000#32 = ((-2 : ℝ) : EReal) := by
  simp [Ideal.ofBits, Ideal.ieee, -EReal.coe_mul, -EReal.coe_neg]; norm_num

/-- The single-precision word for ten. -/
theorem ofBits_ten : Ideal.ofBits .f32 0x41200000#32 = ((10 : ℝ) : EReal) := by
  simp [Ideal.ofBits, Ideal.ieee, -EReal.coe_mul]; norm_num

/-- The single-precision word for minus infinity. -/
theorem ofBits_bot : Ideal.ofBits .f32 0xFF800000#32 = ⊥ := by
  simp [Ideal.ofBits, Ideal.ieee]

/-- The single-precision word for infinity. -/
theorem ofBits_top : Ideal.ofBits .f32 0x7F800000#32 = ⊤ := by
  simp [Ideal.ofBits, Ideal.ieee]

end Cert.Hand
-- ==== Proof.ReferenceRows.lean ====
module

public import proofs.«01_k».proof.Proof.ReferenceRun
public import proofs.«01_k».proof.Proof.Rows

/-! The reference's stages at an index over the extended reals, in the words of Proof.Rows. -/

@[expose] public section

set_option maxRecDepth 16384

noncomputable section

namespace Cert.ReferenceIdeal.Hand

open Cert.ReferenceIdeal Cert.ReferenceIdeal.Gen Cert.Hand
open Idealize.ShloMosaic

/-- The squared distance of the row `r` to the node `n`. -/
theorem dist_apply (x : FArr Ideal S16384x128) (som : FArr Ideal S10x10x128) (r : Fin 16384) (n : Fin 100) :
    dist x som (ix2 r n) = (∑ k : Fin 128, x (ix2 r k) * x (ix2 r k))
      - ((2 : ℝ) : EReal) * (∑ k : Fin 128, x (ix2 r k) * shapeCast S100x128 som shapeCasts_S10x10x128_S100x128 (ix2 n k))
      + ∑ k : Fin 128, shapeCast S100x128 som shapeCasts_S10x10x128_S100x128 (ix2 n k)
          * shapeCast S100x128 som shapeCasts_S10x10x128_S100x128 (ix2 n k) := by
  unfold dist
  generalize shapeCast S100x128 som shapeCasts_S10x10x128_S100x128 = w
  pointwise! [ofBits_two]

/-- The code of the row `r`. -/
theorem encode_apply (x : FArr Ideal S16384x128) (w1 : FArr Ideal S128x64) (b1 : FArr Ideal S64) (w2 : FArr Ideal S64x32)
    (b2 : FArr Ideal S32) (w3 : FArr Ideal S32x4) (b3 : FArr Ideal S4) (r : Fin 16384) (j : Fin 4) :
    encode x w1 b1 w2 b2 w3 b3 (ix2 r j)
      = lin (mat w3) (vec b3) (layer (mat w2) (vec b2) (layer (mat w1) (vec b1) fun k => x (ix2 r k))) j := by
  pointwise! [encode, lin, layer, mat, vec]

/-- The reconstruction of the row `r`. -/
theorem decode_apply (z : FArr Ideal S16384x4) (w1 : FArr Ideal S4x32) (b1 : FArr Ideal S32) (w2 : FArr Ideal S32x64)
    (b2 : FArr Ideal S64) (w3 : FArr Ideal S64x128) (b3 : FArr Ideal S128) (r : Fin 16384) (d : Fin 128) :
    decode z w1 b1 w2 b2 w3 b3 (ix2 r d)
      = lin (mat w3) (vec b3) (layer (mat w2) (vec b2) (layer (mat w1) (vec b1) fun k => z (ix2 r k))) d := by
  pointwise! [decode, lin, layer, mat, vec]

/-- The relative error at the row `r`. -/
theorem relErr_apply (x y : FArr Ideal S16384x128) (r : Fin 16384) :
    relErr x y (ix1 r) = Ideal.div (Ideal.sqrt (∑ d : Fin 128, (x (ix2 r d) - y (ix2 r d)) * (x (ix2 r d) - y (ix2 r d))))
      (Ideal.sqrt (∑ d : Fin 128, x (ix2 r d) * x (ix2 r d)) + Ideal.ofBits .f32 0x2B8CBCCC#32) := by
  pointwise! [relErr, rowNorm, rowDot, tiny]

/-- The cosine similarity at the row `r`. -/
theorem cosSim_apply (x y : FArr Ideal S16384x128) (r : Fin 16384) :
    cosSim x y (ix1 r) = Ideal.div (∑ d : Fin 128, x (ix2 r d) * y (ix2 r d))
      (Ideal.sqrt (∑ d : Fin 128, x (ix2 r d) * x (ix2 r d)) * Ideal.sqrt (∑ d : Fin 128, y (ix2 r d) * y (ix2 r d))
        + Ideal.ofBits .f32 0x2B8CBCCC#32) := by
  pointwise! [cosSim, rowNorm, rowDot, tiny]

/-- The eight features of the row `r`. -/
theorem joinFeatures_apply (z : FArr Ideal S16384x4) (e c : FArr Ideal S16384x1) (s : FArr Ideal S16384x2) (r : Fin 16384) (k : Fin 8) :
    joinFeatures z e c s (ix2 r k)
      = features (fun t => z (ix2 r t)) (e (ix2 r 0)) (c (ix2 r 0)) (s (ix2 r 0)) (s (ix2 r 1)) k := by
  pointwise [joinFeatures, features]
  fin_vals k with hk
  all_goals simp only [hk, Nat.reduceSub, Nat.reduceLT, ↓reduceDIte, ↓reduceIte]
  all_goals rfl

/-- The gate at the row `r`. -/
theorem gate_apply (z : FArr Ideal S16384x4) (e c : FArr Ideal S16384) (s : FArr Ideal S16384x2) (w1 : FArr Ideal S8x10)
    (b1 : FArr Ideal S10) (w2 : FArr Ideal S10x4) (b2 : FArr Ideal S4) (r : Fin 16384) (q : Fin 4) :
    gate z e c s w1 b1 w2 b2 (ix2 r q)
      = lin (mat w2) (vec b2) (layer (mat w1) (vec b1)
          (features (fun t => z (ix2 r t)) (e (ix1 r)) (c (ix1 r)) (s (ix2 r 0)) (s (ix2 r 1)))) q := by
  have h : ∀ k, features (fun t => z (ix2 r t)) (e (ix1 r)) (c (ix1 r)) (s (ix2 r 0)) (s (ix2 r 1)) k
      = joinFeatures z (broadcastInDim S16384x1 ![0] bcast_S16384_S16384x1_0 e)
          (broadcastInDim S16384x1 ![0] bcast_S16384_S16384x1_0 c) s (ix2 r k) := by
    intro k
    rw [joinFeatures_apply]
    pointwise
  unfold gate
  generalize joinFeatures z (broadcastInDim S16384x1 ![0] bcast_S16384_S16384x1_0 e)
          (broadcastInDim S16384x1 ![0] bcast_S16384_S16384x1_0 c) s = f at h ⊢
  rw [show features (fun t => z (ix2 r t)) (e (ix1 r)) (c (ix1 r)) (s (ix2 r 0)) (s (ix2 r 1)) = fun k => f (ix2 r k) from funext h]
  pointwise! [lin, layer, mat, vec]

/-- The softmax of the row `r`. -/
theorem softmaxRows_apply (g : FArr Ideal S16384x4) (r : Fin 16384) (q : Fin 4) :
    softmaxRows g (ix2 r q) = softmax (fun t => g (ix2 r t)) q := by
  pointwise [softmaxRows, shiftedExp, fourTimes, softmax, ofBits_bot]
  simp only [max_eq_right bot_le]

/-- The two coordinates at the row `r`. -/
theorem coords_apply (i : IArr Ideal S16384) (r : Fin 16384) :
    coords (F := Ideal) i (ix2 r 0) = Ideal.div (((floorTen (F := Ideal) i (ix1 r)).toInt : ℝ) : EReal) ((10 : ℝ) : EReal)
    ∧ coords (F := Ideal) i (ix2 r 1) = Ideal.div (((modTen (F := Ideal) i (ix1 r)).toInt : ℝ) : EReal) ((10 : ℝ) : EReal) := by
  constructor
  · pointwise [coords, joinCoords, ofBits_ten]
    rfl
  · pointwise [coords, joinCoords, ofBits_ten]
    rfl

end Cert.ReferenceIdeal.Hand
-- ==== Proof.KernelRows.lean ====
module

public import proofs.«01_k».proof.Proof.KernelIdealValue
public import proofs.«01_k».proof.Proof.Rows

/-! The kernel's stages at an index over the extended reals, in the words of Proof.Rows. -/

@[expose] public section

set_option maxRecDepth 16384

noncomputable section

namespace Cert.KernelIdeal.Hand

open Cert.KernelIdeal Cert.KernelIdeal.Gen Cert.Hand
open Idealize.ShloMosaic

/-- The score of a node against a sample: the node's square plus minus twice their product. -/
theorem score_apply (w : Arr Ideal S100x128) (x : Arr Ideal S4096x128) (n : Fin 100) (r : Fin 4096) :
    score w x (ix2 n r) = (∑ k : Fin 128, w (ix2 n k) * w (ix2 n k)) + ∑ k : Fin 128, ((-2 : ℝ) : EReal) * w (ix2 n k) * x (ix2 r k) := by
  pointwise [score, ofBits_neg_two]

/-- The code of a sample is three layers of the encoder, the last one linear. -/
theorem latent_apply (w1 : Arr Ideal S128x64) (w6 : Arr Ideal S64x128) (x : Arr Ideal S4096x128) (b1 : Arr Ideal S1x64) (w2 : Arr Ideal S64x32)
    (b2 : Arr Ideal S1x32) (w3 : Arr Ideal S32x4) (b3 : Arr Ideal S1x4) (r : Fin 4096) (j : Fin 4) :
    latent (stacked w1 w6 x) b1 w2 b2 w3 b3 (ix2 j r)
      = lin (mat w3) (mat b3 0) (layer (mat w2) (mat b2 0) (layer (mat w1) (mat b1 0) fun k => x (ix2 r k))) j := by
  pointwise! [latent, stacked, lin, layer, mat]

/-- The decoder's last hidden layer is two layers over the code. -/
theorem hidden_apply (z : Arr Ideal S4x4096) (w4 : Arr Ideal S4x32) (b4 : Arr Ideal S1x32) (w5 : Arr Ideal S32x64) (b5 : Arr Ideal S1x64)
    (r : Fin 4096) (j : Fin 64) :
    hidden z w4 b4 w5 b5 (ix2 j r) = layer (mat w5) (mat b5 0) (layer (mat w4) (mat b4 0) fun k => z (ix2 k r)) j := by
  pointwise! [hidden, lin, layer, mat]

/-- The rebuilt sample is the decoder's linear layer over the last hidden layer. -/
theorem rebuilt_apply (h : Arr Ideal S64x4096) (w6 : Arr Ideal S64x128) (b6 : Arr Ideal S1x128) (r : Fin 4096) (d : Fin 128) :
    rebuilt h w6 b6 (ix2 d r) = lin (mat w6) (mat b6 0) (fun k => h (ix2 k r)) d := by
  pointwise! [rebuilt, lin]

/-- The square length of a rebuilt sample. -/
theorem rebuiltSq_apply (y : Arr Ideal S128x4096) (r : Fin 4096) :
    rebuiltSq y (ix2 0 r) = ∑ d : Fin 128, y (ix2 d r) * y (ix2 d r) := by
  pointwise! [rebuiltSq]

/-- The square length of a sample; the product with a row of ones is the sum of the squares. -/
theorem sampleSq_apply (x : Arr Ideal S4096x128) (r : Fin 4096) :
    sampleSq x (ix2 0 r) = ∑ d : Fin 128, x (ix2 r d) * x (ix2 r d) := by
  pointwise! [sampleSq]

/-- The product of a sample with its rebuilt self, as the kernel groups it: over the hidden layer first, then the bias. -/
theorem crossSum_apply (h : Arr Ideal S64x4096) (w1 : Arr Ideal S128x64) (w6 : Arr Ideal S64x128) (b6 : Arr Ideal S1x128)
    (x : Arr Ideal S4096x128) (r : Fin 4096) :
    crossSum h (stacked w1 w6 x) b6 x (ix2 0 r)
      = (∑ j : Fin 64, h (ix2 j r) * ∑ d : Fin 128, w6 (ix2 j d) * x (ix2 r d)) + ∑ d : Fin 128, b6 (ix2 0 d) * x (ix2 r d) := by
  pointwise! [crossSum, stacked]

/-- The relative distance, from the two square lengths and the product. -/
theorem distRel_apply (xx xy yy : Arr Ideal S1x4096) (r : Fin 4096) :
    distRel xx xy yy (ix2 0 r) = Ideal.div (Ideal.sqrt (max (xx (ix2 0 r) - ((2 : ℝ) : EReal) * xy (ix2 0 r) + yy (ix2 0 r)) 0))
      (Ideal.sqrt (xx (ix2 0 r)) + Ideal.ofBits .f32 0x2B8CBCCC#32) := by
  pointwise! [distRel, ofBits_two]

/-- The cosine, from the two square lengths and the product. -/
theorem cosine_apply (xx xy yy : Arr Ideal S1x4096) (r : Fin 4096) :
    cosine xx xy yy (ix2 0 r) = Ideal.div (xy (ix2 0 r))
      (Ideal.sqrt (xx (ix2 0 r)) * Ideal.sqrt (yy (ix2 0 r)) + Ideal.ofBits .f32 0x2B8CBCCC#32) := by
  pointwise! [cosine]

/-- A coordinate of the winning node, as tenths. -/
theorem tenths_apply (k : IVec S1x4096 32) (r : Fin 4096) :
    tenths (F := Ideal) k (ix2 0 r) = (((k (ix2 0 r)).toInt : ℝ) : EReal) * ((1 / 10 : ℝ) : EReal) := by
  pointwise [tenths]
  rfl

/-- The gate's input stacks the code, the two errors and the winner's coordinates. -/
theorem gateIn_apply (z : Arr Ideal S4x4096) (e s i j : Arr Ideal S1x4096) (r : Fin 4096) (k : Fin 8) :
    gateIn z e s i j (ix2 k r) = features (fun t => z (ix2 t r)) (e (ix2 0 r)) (s (ix2 0 r)) (i (ix2 0 r)) (j (ix2 0 r)) k := by
  pointwise [gateIn, features]
  fin_vals k with hk
  all_goals simp only [hk, Nat.reduceSub, Nat.reduceLT, ↓reduceDIte, ↓reduceIte]
  all_goals rfl

/-- The gate's logits are a hidden layer and a linear layer over its input. -/
theorem logits_apply (y : Arr Ideal S8x4096) (g1 : Arr Ideal S8x10) (c1 : Arr Ideal S1x10) (g2 : Arr Ideal S10x4)
    (c2 : Arr Ideal S1x4) (r : Fin 4096) (q : Fin 4) :
    logits y g1 c1 g2 c2 (ix2 q r) = lin (mat g2) (mat c2 0) (layer (mat g1) (mat c1 0) fun k => y (ix2 k r)) q := by
  pointwise! [logits, lin, layer, mat]

/-- The shares are the softmax of the logits. -/
theorem shares_apply (l : Arr Ideal S4x4096) (r : Fin 4096) (q : Fin 4) :
    shares (raised l) (ix2 r q) = softmax (fun t => l (ix2 t r)) q := by
  pointwise [shares, raised, softmax, ofBits_bot]

end Cert.KernelIdeal.Hand
-- ==== Proof.Nearest.lean ====
module

public import proofs.«01_k».proof.Proof.ReferenceRows
public import proofs.«01_k».proof.Proof.KernelRows

/-! The nearest map node. The kernel takes the least of a column's scores and then the least row holding it; the
reference folds a comparison over the pairs of a distance and its position. Both give the first position whose value is
the least. The node's coordinates on the map are integer arithmetic on that position, the same in both programs. -/

@[expose] public section

set_option maxRecDepth 16384

noncomputable section

namespace Cert.Hand

open Idealize.ShloMosaic

/-- `n` is the first position at which `f` is least. -/
def IsFirst (f : Fin 100 → EReal) (n : Fin 100) : Prop := ∀ p, f n ≤ f p ∧ (p < n → f n < f p)

/-- There is a first position at which `f` is least. -/
theorem exists_first (f : Fin 100 → EReal) : ∃ n, IsFirst f n := by
  classical
  obtain ⟨p, -, hp⟩ := Finset.exists_min_image Finset.univ f Finset.univ_nonempty
  have hne : (Finset.univ.filter fun k => ∀ q, f k ≤ f q).Nonempty :=
    ⟨p, Finset.mem_filter.mpr ⟨Finset.mem_univ _, fun q => hp q (Finset.mem_univ _)⟩⟩
  obtain ⟨n, hn, hmin⟩ := Finset.exists_min_image _ id hne
  have hle := (Finset.mem_filter.mp hn).2
  refine ⟨n, fun q => ⟨hle q, fun hq => lt_of_le_of_ne (hle q) fun he => ?_⟩⟩
  exact absurd (hmin q (Finset.mem_filter.mpr ⟨Finset.mem_univ _, fun k => he ▸ hle k⟩)) (not_le.mpr hq)

/-- The first least position depends only on how the values compare. -/
theorem IsFirst.congr {f g : Fin 100 → EReal} {n : Fin 100} (h : IsFirst f n) (hfg : ∀ p q, f p ≤ f q ↔ g p ≤ g q) : IsFirst g n :=
  fun p => ⟨(hfg n p).mp (h p).1, fun hp => not_le.mp fun hle => not_le.mpr ((h p).2 hp) ((hfg p n).mpr hle)⟩

/-- The signed value of a small word. -/
theorem toInt_small (n : ℕ) (h : n ≤ 100) : (BitVec.ofNat 32 n).toInt = n := by
  rw [BitVec.toInt_eq_toNat_cond, BitVec.toNat_ofNat]
  rw [Nat.mod_eq_of_lt (by omega)]
  rw [if_pos (by omega)]

/-- The lesser of two words is at most each and is one of them. -/
theorem minsi_cases (x y : BitVec 32) :
    (IntOp.minsi x y).toInt ≤ x.toInt ∧ (IntOp.minsi x y).toInt ≤ y.toInt ∧ (IntOp.minsi x y = x ∨ IntOp.minsi x y = y) := by
  simp only [IntOp.minsi, BitVec.slt, decide_eq_true_eq]
  split_ifs with h
  · exact ⟨le_rfl, h.le, .inl rfl⟩
  · exact ⟨by omega, le_rfl, .inr rfl⟩

/-- The least of a set of words is at most the start and each of them, and is one of them. -/
theorem fold_minsi_cases {ι : Type} [DecidableEq ι] (g : ι → BitVec 32) (s : Finset ι) (v : BitVec 32) :
    (∀ i ∈ s, (s.fold IntOp.minsi v g).toInt ≤ (g i).toInt) ∧
      (s.fold IntOp.minsi v g = v ∨ ∃ i ∈ s, s.fold IntOp.minsi v g = g i) := by
  induction s using Finset.induction_on with
  | empty => exact ⟨fun i hi => absurd hi (Finset.notMem_empty i), .inl Finset.fold_empty⟩
  | insert a s ha ih =>
    rw [Finset.fold_insert ha]
    obtain ⟨h1, h2, h3⟩ := minsi_cases (g a) (s.fold IntOp.minsi v g)
    refine ⟨fun i hi => ?_, ?_⟩
    · rcases Finset.mem_insert.mp hi with rfl | hi
      · exact h1
      · exact h2.trans (ih.1 i hi)
    · rcases h3 with h3 | h3
      · exact .inr ⟨a, Finset.mem_insert_self a s, h3⟩
      · rcases ih.2 with h | ⟨i, hi, h⟩
        · exact .inl (h3.trans h)
        · exact .inr ⟨i, Finset.mem_insert_of_mem hi, h3.trans h⟩

/-- The least of all the values is the value at the first least position. -/
theorem fold_min_first {f : Fin 100 → EReal} {n : Fin 100} (h : IsFirst f n) : Finset.univ.fold min ⊤ f = f n :=
  le_antisymm ((Finset.fold_min_le _).mpr (.inr ⟨n, Finset.mem_univ n, le_rfl⟩))
    ((Finset.le_fold_min _).mpr ⟨le_top, fun p _ => (h p).1⟩)

/-- The least position among those holding the least value is the first. -/
theorem fold_minsi_first {f : Fin 100 → EReal} {n : Fin 100} (h : IsFirst f n) :
    (Finset.univ.fold IntOp.minsi 2147483647#32 fun p : Fin 100 =>
      if f p ≤ Finset.univ.fold min ⊤ f then BitVec.ofNat 32 p.val else 100#32) = BitVec.ofNat 32 n.val := by
  rw [fold_min_first h]
  obtain ⟨h1, h2⟩ := fold_minsi_cases (fun p : Fin 100 => if f p ≤ f n then BitVec.ofNat 32 p.val else 100#32)
    Finset.univ 2147483647#32
  have hn := h1 n (Finset.mem_univ n)
  simp only [le_refl, if_true, toInt_small n.val n.isLt.le] at hn
  have hlt := n.isLt
  rcases h2 with h2 | ⟨p, -, h2⟩
  · rw [h2] at hn
    exact absurd hn (by rw [show (2147483647#32 : BitVec 32).toInt = 2147483647 from rfl]; omega)
  · rw [h2] at hn ⊢
    split_ifs at hn ⊢ with hp
    · rw [toInt_small p.val p.isLt.le] at hn
      have hpn : ¬ p < n := fun hl => absurd ((h p).2 hl) (not_lt.mpr hp)
      rw [show p = n from Fin.ext (by have := Fin.le_def.mp (not_lt.mp hpn); omega)]
    · exact absurd hn (by rw [show (100#32 : BitVec 32).toInt = 100 from rfl]; omega)

end Cert.Hand

namespace Cert.KernelIdeal.Hand
open Cert.KernelIdeal Cert.KernelIdeal.Gen Cert.Hand Idealize.ShloMosaic

/-- The kernel's nearest node is the first with the least score. -/
theorem nearest_apply (s : Arr Ideal S100x4096) (r : Fin 4096) (n : Fin 100) (h : IsFirst (fun p => s (ix2 p r)) n) :
    nearest s (ix2 0 r) = BitVec.ofNat 32 n.val := by
  rw [← fold_minsi_first h]
  pointwise [nearest, ofBits_top]

end Cert.KernelIdeal.Hand

namespace Cert.ReferenceIdeal.Hand
open Cert.ReferenceIdeal Cert.ReferenceIdeal.Gen Cert.Hand Idealize.ShloMosaic

/-- One pair of a value and a position is no later than another: less, or as great and no further on. -/
def NoLater (a b : EReal × BitVec 32) : Prop := a.1 < b.1 ∨ (a.1 = b.1 ∧ a.2.toInt ≤ b.2.toInt)

/-- The reference's comparison keeps one of its two pairs, the one no later than the other. -/
theorem keep_cases (a b : EReal × BitVec 32) :
    let k := reducer_argmin_f32_i32 (F := Ideal) a b
    (k = a ∨ k = b) ∧ NoLater k a ∧ NoLater k b := by
  obtain ⟨a, i⟩ := a
  obtain ⟨b, j⟩ := b
  dsimp only [reducer_argmin_f32_i32]
  simp only [Ideal.cmpf_def, Ideal.cmp, IntOp.ori, IntOp.andi, IntOp.cmpi, Scalar.select, NoLater, BitVec.slt]
  rcases lt_trichotomy a b with hab | hab | hab
  · simp [hab, hab.le, hab.ne]
  · subst hab
    by_cases hij : i.toInt < j.toInt
    · simp [hij, hij.le]
    · simp [hij, not_lt.mp hij]
  · simp [hab, hab.ne', not_lt.mpr hab.le]

/-- Being no later passes along. -/
theorem NoLater.trans {a b c : EReal × BitVec 32} (h : NoLater a b) (h' : NoLater b c) : NoLater a c := by
  rcases h with h | ⟨h, hi⟩
  · rcases h' with h' | ⟨h', -⟩
    · exact .inl (h.trans h')
    · exact .inl (h' ▸ h)
  · rcases h' with h' | ⟨h', hj⟩
    · exact .inl (h ▸ h')
    · exact .inr ⟨h.trans h', hi.trans hj⟩

/-- Folding the comparison over a list keeps the start or one of the list, no later than any of them. -/
theorem foldl_cases (l : List (EReal × BitVec 32)) (a : EReal × BitVec 32) :
    (l.foldl (reducer_argmin_f32_i32 (F := Ideal)) a = a ∨ l.foldl (reducer_argmin_f32_i32 (F := Ideal)) a ∈ l)
      ∧ NoLater (l.foldl (reducer_argmin_f32_i32 (F := Ideal)) a) a
      ∧ ∀ b ∈ l, NoLater (l.foldl (reducer_argmin_f32_i32 (F := Ideal)) a) b := by
  induction l generalizing a with
  | nil => exact ⟨.inl rfl, .inr ⟨rfl, le_rfl⟩, fun b hb => absurd hb List.not_mem_nil⟩
  | cons x l ih =>
    obtain ⟨h1, h2, h3⟩ := ih (reducer_argmin_f32_i32 (F := Ideal) a x)
    obtain ⟨k1, k2, k3⟩ := keep_cases a x
    rw [List.foldl_cons]
    refine ⟨?_, h2.trans k2, fun b hb => ?_⟩
    · rcases h1 with h1 | h1
      · rcases k1 with k1 | k1
        · exact .inl (h1.trans k1)
        · exact .inr (by rw [h1, k1]; exact List.mem_cons_self)
      · exact .inr (List.mem_cons_of_mem _ h1)
    · rcases List.mem_cons.mp hb with rfl | hb
      · exact h2.trans k3
      · exact h3 b hb

/-- The pairs the reference folds over at the row `r`: the row's values with their positions. -/
theorem mem_fiber (d : FArr Ideal S16384x100) (r : Fin 16384) (b : EReal × BitVec 32) :
    b ∈ Host.argReduceFiber d (iotaInDim S16384x100 32 1) reducesTo_S16384x100_S16384_d1 (ix1 r)
      ↔ ∃ p : Fin 100, b = (d (ix2 r p), BitVec.ofNat 32 p.val) := by
  unfold Host.argReduceFiber
  rw [List.mem_map]
  constructor
  · rintro ⟨n, hn, rfl⟩
    have hdrop := of_decide_eq_true (List.mem_filter.mp hn).2
    generalize (S16384x100 : Shape).rowMajor.symm n = i at hdrop ⊢
    have h0 : (i 0).val = r.val := congrArg (fun k : S16384.Idx => (k 0).val) hdrop
    refine ⟨i 1, Prod.ext (congrArg d ?_) rfl⟩
    funext k
    fin_cases k
    · exact Fin.ext h0
    · rfl
  · rintro ⟨p, rfl⟩
    refine ⟨(S16384x100 : Shape).rowMajor (ix2 r p), List.mem_filter.mpr ⟨List.mem_finRange _, decide_eq_true ?_⟩, ?_⟩
    · rw [Equiv.symm_apply_apply]
      funext k
      fin_cases k
      rfl
    · rw [Equiv.symm_apply_apply]
      rfl

/-- The reference's nearest node is the first with the least distance, where that is below infinity. -/
theorem bmu_apply (d : FArr Ideal S16384x100) (r : Fin 16384) (n : Fin 100) (h : IsFirst (fun p => d (ix2 r p)) n)
    (hd : d (ix2 r n) < ⊤) : bmu (F := Ideal) d (ix1 r) = BitVec.ofNat 32 n.val := by
  unfold bmu bmuIndex
  beta_reduce
  rw [Ideal.argReduce_eq_reduce2, Host.reduce2_eq_foldl_fiber]
  obtain ⟨h1, -, h3⟩ := foldl_cases
    (Host.argReduceFiber d (iotaInDim S16384x100 32 1) reducesTo_S16384x100_S16384_d1 (ix1 r))
    (constant (F := Ideal) S_ .f32 0x7F800000#32 (Shape.Idx.first h_S_), constantI S_ 32 0#32 (Shape.Idx.first h_S_))
  have hn := h3 _ ((mem_fiber d r _).mpr ⟨n, rfl⟩)
  rcases h1 with h1 | h1
  · rw [h1] at hn
    have ht : (constant (F := Ideal) S_ .f32 0x7F800000#32 (Shape.Idx.first h_S_)) = (⊤ : EReal) := ofBits_top
    rcases hn with hn | ⟨hn, -⟩
    · exact absurd (lt_of_eq_of_lt ht.symm hn) (not_lt.mpr le_top)
    · exact absurd (hn.symm.trans ht) hd.ne
  · obtain ⟨p, hp⟩ := (mem_fiber d r _).mp h1
    rw [hp] at hn ⊢
    rcases hn with hn | ⟨hn, hi⟩
    · exact absurd hn (not_lt.mpr (h p).1)
    · dsimp only at hn hi
      rw [toInt_small _ p.isLt.le, toInt_small _ n.isLt.le] at hi
      have hpn : ¬ p < n := fun hl => absurd ((h p).2 hl) (not_lt.mpr hn.le)
      rw [show p = n from Fin.ext (by have := Fin.le_def.mp (not_lt.mp hpn); omega)]

/-! ## The coordinates -/

/-- On a node's number the two programs' quotients by ten are one word. -/
theorem row_words (k : IVec Cert.KernelIdeal.S1x4096 32) (i : IArr Ideal S16384) (q : Fin 4096) (r : Fin 16384) (n : Fin 100)
    (hk : k (ix2 0 q) = BitVec.ofNat 32 n.val) (hi : i (ix1 r) = BitVec.ofNat 32 n.val) :
    Cert.KernelIdeal.Hand.mapRow k (ix2 0 q) = floorTen (F := Ideal) i (ix1 r) := by
  pointwise [Cert.KernelIdeal.Hand.mapRow, floorTen, everyRow, hk, hi]
  clear hk hi
  revert n
  decide +kernel

/-- On a node's number the two programs' remainders by ten are one word. -/
theorem col_words (k : IVec Cert.KernelIdeal.S1x4096 32) (i : IArr Ideal S16384) (q : Fin 4096) (r : Fin 16384) (n : Fin 100)
    (hk : k (ix2 0 q) = BitVec.ofNat 32 n.val) (hi : i (ix1 r) = BitVec.ofNat 32 n.val) :
    Cert.KernelIdeal.Hand.mapCol k (ix2 0 q) = modTen (F := Ideal) i (ix1 r) := by
  pointwise [Cert.KernelIdeal.Hand.mapCol, Cert.KernelIdeal.Hand.ten, modTen, everyRow, guardedTen, hk, hi]
  clear hk hi
  revert n
  decide +kernel

end Cert.ReferenceIdeal.Hand
-- ==== Proof.Algebra.lean ====
module

public import proofs.«01_k».proof.Proof.Rows

/-! The real algebra between the two programs' forms of one sample's numbers: a squared distance with and without the
sample's own norm, an inner product with a linear layer's output summed in either order, and the square of a difference
expanded. All the numbers here are finite. -/

@[expose] public section

noncomputable section

namespace Cert.Hand

open Idealize.ShloMosaic

/-- A finite sum of reals is the same sum among the extended reals. -/
theorem coe_total {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The hyperbolic tangent of any extended real is a real. -/
theorem tanh_finite (a : EReal) : ∃ t : ℝ, Ideal.tanh a = t := by
  induction a using EReal.rec with
  | bot => exact ⟨-1, by simp⟩
  | top => exact ⟨1, by simp⟩
  | coe r => exact ⟨Real.tanh r, rfl⟩

/-- The kernel's score of a node: the squared distance less the sample's own squared norm. -/
theorem score_real (x w : Fin 128 → ℝ) :
    (∑ k, (w k : EReal) * w k) + ∑ k, ((-2 : ℝ) : EReal) * w k * x k = ((∑ k, w k * w k) - 2 * ∑ k, x k * w k : ℝ) := by
  simp only [← EReal.coe_mul, ← coe_total, ← EReal.coe_add]
  congr 1
  rw [sub_eq_add_neg, ← neg_mul, Finset.mul_sum]
  exact congrArg _ (Finset.sum_congr rfl fun k _ => by ring)

/-- The reference's squared distance, among the reals. -/
theorem dist_real (x w : Fin 128 → ℝ) :
    (∑ k, (x k : EReal) * x k) - ((2 : ℝ) : EReal) * (∑ k, (x k : EReal) * w k) + ∑ k, (w k : EReal) * w k
      = ((∑ k, x k * x k) + ((∑ k, w k * w k) - 2 * ∑ k, x k * w k) : ℝ) := by
  simp only [← EReal.coe_mul, ← coe_total, ← EReal.coe_add, ← EReal.coe_sub]
  congr 1
  ring

/-- The inner product of a sample with a linear layer's output, formed from the layer's input. -/
theorem cross_real (x b : Fin 128 → ℝ) (m : Fin 64 → Fin 128 → ℝ) (h : Fin 64 → ℝ) :
    (∑ j, (h j : EReal) * ∑ d, (m j d : EReal) * x d) + ∑ d, (b d : EReal) * x d
      = ∑ d, (x d : EReal) * lin (fun j d => (m j d : EReal)) (fun d => (b d : EReal)) (fun j => (h j : EReal)) d := by
  unfold lin
  simp only [← EReal.coe_mul, ← coe_total, ← EReal.coe_add]
  congr 1
  simp only [mul_add, Finset.mul_sum, Finset.sum_add_distrib]
  rw [Finset.sum_comm]
  congr 1
  · exact Finset.sum_congr rfl fun d _ => Finset.sum_congr rfl fun j _ => by ring
  · exact Finset.sum_congr rfl fun d _ => by ring

/-- The square of a difference, expanded; kept from below zero it is unchanged. -/
theorem square_real (x y : Fin 128 → ℝ) :
    max ((∑ d, (x d : EReal) * x d) - ((2 : ℝ) : EReal) * (∑ d, (x d : EReal) * y d) + ∑ d, (y d : EReal) * y d) 0
      = ∑ d, ((x d : EReal) - y d) * ((x d : EReal) - y d) := by
  have h : (∑ d, (x d - y d) * (x d - y d)) = (∑ d, x d * x d) - 2 * (∑ d, x d * y d) + ∑ d, y d * y d := by
    rw [Finset.mul_sum, ← Finset.sum_sub_distrib, ← Finset.sum_add_distrib]
    exact Finset.sum_congr rfl fun d _ => by ring
  simp only [← EReal.coe_mul, ← coe_total, ← EReal.coe_add, ← EReal.coe_sub]
  rw [← h]
  exact max_eq_left (EReal.coe_nonneg.mpr (Finset.sum_nonneg fun d _ => mul_self_nonneg _))

/-- A tenth of a number is its quotient by ten. -/
theorem tenth_quotient (a : EReal) : a * ((1 / 10 : ℝ) : EReal) = Ideal.div a ((10 : ℝ) : EReal) := by
  unfold Ideal.div
  rw [if_neg (by norm_num), ← EReal.coe_inv]
  norm_num

/-- An extended real whose absolute value is below infinity is a real. -/
theorem finite_of_abs_lt {a : EReal} (h : max a (-a) < ⊤) : ∃ r : ℝ, a = r := by
  induction a using EReal.rec with
  | bot => simp at h
  | top => simp at h
  | coe r => exact ⟨r, rfl⟩

end Cert.Hand
-- ==== Proof.Equal.lean ====
module

public import proofs.«01_k».proof.Proof.Nearest
public import proofs.«01_k».proof.Proof.Algebra

/-! One sample's gate: the kernel's chunk and the reference give the same four shares, where the samples, the map's
weights and the decoder's last layer are finite. -/

@[expose] public section

set_option maxRecDepth 16384

noncomputable section

namespace Cert.Hand

open Idealize.ShloMosaic
open Cert.KernelIdeal.Hand Cert.ReferenceIdeal.Hand
open Cert.ReferenceIdeal (S16384x128 S10x10x128 S100x128 S128x64 S64 S64x32 S32 S32x4 S4 S4x32 S32x64 S64x128 S128 S8x10 S10 S10x4)
open Cert.KernelIdeal (S4096x128 S1x64 S1x32 S1x4 S1x128 S1x10)
open Cert.KernelIdeal.Gen (shapeCasts_S10x10x128_S100x128 shapeCasts_S64_S1x64 shapeCasts_S32_S1x32 shapeCasts_S4_S1x4
  shapeCasts_S128_S1x128 shapeCasts_S10_S1x10)

/-- A bias of 64 laid out as a row is the bias. -/
theorem row64 (b : Arr Ideal S64) : mat (shapeCast S1x64 b shapeCasts_S64_S1x64) 0 = vec b := by
  funext j; pointwise [mat, vec]

/-- A bias of 32 laid out as a row is the bias. -/
theorem row32 (b : Arr Ideal S32) : mat (shapeCast S1x32 b shapeCasts_S32_S1x32) 0 = vec b := by
  funext j; pointwise [mat, vec]

/-- A bias of 4 laid out as a row is the bias. -/
theorem row4 (b : Arr Ideal S4) : mat (shapeCast S1x4 b shapeCasts_S4_S1x4) 0 = vec b := by
  funext j; pointwise [mat, vec]

/-- A bias of 128 laid out as a row is the bias. -/
theorem row128 (b : Arr Ideal S128) : mat (shapeCast S1x128 b shapeCasts_S128_S1x128) 0 = vec b := by
  funext j; pointwise [mat, vec]

/-- A bias of 10 laid out as a row is the bias. -/
theorem row10 (b : Arr Ideal S10) : mat (shapeCast S1x10 b shapeCasts_S10_S1x10) 0 = vec b := by
  funext j; pointwise [mat, vec]

section

variable (xk : Arr Ideal S4096x128) (x : Arr Ideal S16384x128) (som : Arr Ideal S10x10x128) (w1 : Arr Ideal S128x64) (b1 : Arr Ideal S64)
  (w2 : Arr Ideal S64x32) (b2 : Arr Ideal S32) (w3 : Arr Ideal S32x4) (b3 : Arr Ideal S4) (w4 : Arr Ideal S4x32) (b4 : Arr Ideal S32)
  (w5 : Arr Ideal S32x64) (b5 : Arr Ideal S64) (w6 : Arr Ideal S64x128) (b6 : Arr Ideal S128) (g1 : Arr Ideal S8x10) (c1 : Arr Ideal S10)
  (g2 : Arr Ideal S10x4) (c2 : Arr Ideal S4) (r : Fin 4096) (R : Fin 16384)
  (hrow : ∀ d : Fin 128, xk (ix2 r d) = x (ix2 R d))

include hrow in
/-- The code is the same. -/
theorem code_eq (j : Fin 4) :
    latent (stacked w1 w6 xk) (shapeCast S1x64 b1 shapeCasts_S64_S1x64) w2 (shapeCast S1x32 b2 shapeCasts_S32_S1x32) w3
        (shapeCast S1x4 b3 shapeCasts_S4_S1x4) (ix2 j r)
      = encode (F := Ideal) x w1 b1 w2 b2 w3 b3 (ix2 R j) := by
  rw [latent_apply, row64, row32, row4, funext hrow]
  exact (encode_apply x w1 b1 w2 b2 w3 b3 R j).symm

/-- The last hidden layer is finite. -/
theorem hidden_finite (z : Arr Ideal Cert.KernelIdeal.S4x4096) :
    ∃ h : Fin 64 → ℝ, ∀ j, hidden z w4 (shapeCast S1x32 b4 shapeCasts_S32_S1x32) w5 (shapeCast S1x64 b5 shapeCasts_S64_S1x64) (ix2 j r) = h j := by
  choose h hh using fun j : Fin 64 => tanh_finite
    (lin (mat w5) (mat (shapeCast S1x64 b5 shapeCasts_S64_S1x64) 0) (layer (mat w4) (mat (shapeCast S1x32 b4 shapeCasts_S32_S1x32) 0)
      fun k => z (ix2 k r)) j)
  exact ⟨h, fun j => (hidden_apply ..).trans (hh j)⟩

include hrow in
/-- The nearest node is the same. -/
theorem node_eq (hx : ∃ X : Fin 128 → ℝ, ∀ d, x (ix2 R d) = X d)
    (hw : ∃ W : Fin 100 → Fin 128 → ℝ, ∀ n d, shapeCast S100x128 som shapeCasts_S10x10x128_S100x128 (ix2 n d) = W n d) :
    ∃ n : Fin 100, nearest (score (shapeCast S100x128 som shapeCasts_S10x10x128_S100x128) xk) (ix2 0 r) = BitVec.ofNat 32 n.val
      ∧ bmu (F := Ideal) (dist (F := Ideal) x som) (ix1 R) = BitVec.ofNat 32 n.val := by
  obtain ⟨X, hX⟩ := hx
  obtain ⟨W, hW⟩ := hw
  have hs : ∀ p : Fin 100, score (shapeCast S100x128 som shapeCasts_S10x10x128_S100x128) xk (ix2 p r)
      = (((∑ k, W p k * W p k) - 2 * ∑ k, X k * W p k : ℝ) : EReal) := fun p => by
    rw [score_apply, ← score_real]
    simp only [hrow, hX, hW]
  have hd : ∀ p : Fin 100, dist (F := Ideal) x som (ix2 R p)
      = (((∑ k, X k * X k) + ((∑ k, W p k * W p k) - 2 * ∑ k, X k * W p k) : ℝ) : EReal) := fun p => by
    refine (dist_apply x som R p).trans ?_
    rw [← dist_real]
    simp only [hX]
    simp only [hW]
  obtain ⟨n, hn⟩ := exists_first fun p => score (shapeCast S100x128 som shapeCasts_S10x10x128_S100x128) xk (ix2 p r)
  refine ⟨n, nearest_apply _ r n hn, bmu_apply _ R n (hn.congr fun p q => ?_) ?_⟩
  · simp only [hs, hd, EReal.coe_le_coe_iff, add_le_add_iff_left]
  · rw [hd]; exact EReal.coe_lt_top _

include hrow in
/-- The two numbers formed from a sample and its reconstruction are the same: the relative distance and the cosine. -/
theorem measures_eq (z : Arr Ideal Cert.KernelIdeal.S4x4096) (zr : Arr Ideal Cert.ReferenceIdeal.S16384x4)
    (hz : ∀ k : Fin 4, z (ix2 k r) = zr (ix2 R k)) (hx : ∃ X : Fin 128 → ℝ, ∀ d, x (ix2 R d) = X d)
    (h6 : ∃ M : Fin 64 → Fin 128 → ℝ, ∀ j d, w6 (ix2 j d) = M j d) (hb : ∃ B : Fin 128 → ℝ, ∀ d, b6 (ix1 d) = B d) :
    let h := hidden z w4 (shapeCast S1x32 b4 shapeCasts_S32_S1x32) w5 (shapeCast S1x64 b5 shapeCasts_S64_S1x64)
    let b := shapeCast S1x128 b6 shapeCasts_S128_S1x128
    let xx := sampleSq xk
    let xy := crossSum h (stacked w1 w6 xk) b xk
    let yy := rebuiltSq (rebuilt h w6 b)
    let y := decode (F := Ideal) zr w4 b4 w5 b5 w6 b6
    distRel xx xy yy (ix2 0 r) = relErr (F := Ideal) x y (ix1 R) ∧ cosine xx xy yy (ix2 0 r) = cosSim (F := Ideal) x y (ix1 R) := by
  obtain ⟨X, hX⟩ := hx
  obtain ⟨M, hM⟩ := h6
  obtain ⟨B, hB⟩ := hb
  obtain ⟨H, hH⟩ := hidden_finite w4 b4 w5 b5 r z
  have hbr : ∀ d, shapeCast S1x128 b6 shapeCasts_S128_S1x128 (ix2 0 d) = B d := fun d => (congrFun (row128 b6) d).trans (hB d)
  let y : Fin 128 → ℝ := fun d => (∑ j, H j * M j d) + B d
  have hlin : ∀ d, lin (fun j d => (M j d : EReal)) (fun d => (B d : EReal)) (fun j => (H j : EReal)) d = y d := fun d => by
    simp only [lin, y, ← EReal.coe_mul, ← coe_total, ← EReal.coe_add]
  have hreb : ∀ d, rebuilt (hidden z w4 (shapeCast S1x32 b4 shapeCasts_S32_S1x32) w5 (shapeCast S1x64 b5 shapeCasts_S64_S1x64)) w6
      (shapeCast S1x128 b6 shapeCasts_S128_S1x128) (ix2 d r) = y d := fun d => by
    rw [rebuilt_apply, ← hlin]
    simp only [lin, mat, hH, hM, hbr]
  have hdec : ∀ d, decode (F := Ideal) zr w4 b4 w5 b5 w6 b6 (ix2 R d) = y d := fun d => by
    refine (decode_apply zr w4 b4 w5 b5 w6 b6 R d).trans ?_
    rw [← hreb, rebuilt_apply, row128]
    refine congrArg (fun a => lin (mat w6) (vec b6) a d) (funext fun j => ?_)
    rw [hidden_apply, row64, row32, funext hz]
  have hxx : sampleSq xk (ix2 0 r) = ∑ d, (X d : EReal) * X d := by
    rw [sampleSq_apply]; simp only [hrow, hX]
  have hyy : rebuiltSq (rebuilt (hidden z w4 (shapeCast S1x32 b4 shapeCasts_S32_S1x32) w5 (shapeCast S1x64 b5 shapeCasts_S64_S1x64)) w6
      (shapeCast S1x128 b6 shapeCasts_S128_S1x128)) (ix2 0 r) = ∑ d, (y d : EReal) * y d := by
    rw [rebuiltSq_apply]; simp only [hreb]
  have hxy : crossSum (hidden z w4 (shapeCast S1x32 b4 shapeCasts_S32_S1x32) w5 (shapeCast S1x64 b5 shapeCasts_S64_S1x64))
      (stacked w1 w6 xk) (shapeCast S1x128 b6 shapeCasts_S128_S1x128) xk (ix2 0 r) = ∑ d, (X d : EReal) * y d := by
    rw [crossSum_apply]
    simp only [hrow, hX, hM, hbr, hH]
    rw [cross_real]
    simp only [hlin]
  refine ⟨?_, ?_⟩
  · rw [distRel_apply, hxx, hxy, hyy, square_real]
    refine Eq.trans ?_ (relErr_apply x _ R).symm
    simp only [hX, hdec]
  · rw [cosine_apply, hxx, hxy, hyy]
    refine Eq.trans ?_ (cosSim_apply x _ R).symm
    simp only [hX, hdec]

include hrow in
/-- The four shares are the same. -/
theorem row_eq (q : Fin 4) (hx : ∃ X : Fin 128 → ℝ, ∀ d, x (ix2 R d) = X d)
    (hw : ∃ W : Fin 100 → Fin 128 → ℝ, ∀ n d, shapeCast S100x128 som shapeCasts_S10x10x128_S100x128 (ix2 n d) = W n d)
    (h6 : ∃ M : Fin 64 → Fin 128 → ℝ, ∀ j d, w6 (ix2 j d) = M j d) (hb : ∃ B : Fin 128 → ℝ, ∀ d, b6 (ix1 d) = B d) :
    blockOut xk (shapeCast S100x128 som shapeCasts_S10x10x128_S100x128) w1 (shapeCast S1x64 b1 shapeCasts_S64_S1x64) w2
        (shapeCast S1x32 b2 shapeCasts_S32_S1x32) w3 (shapeCast S1x4 b3 shapeCasts_S4_S1x4) w4 (shapeCast S1x32 b4 shapeCasts_S32_S1x32) w5
        (shapeCast S1x64 b5 shapeCasts_S64_S1x64) w6 (shapeCast S1x128 b6 shapeCasts_S128_S1x128) g1
        (shapeCast S1x10 c1 shapeCasts_S10_S1x10) g2 (shapeCast S1x4 c2 shapeCasts_S4_S1x4) (ix2 r q)
      = softmaxRows (F := Ideal) (gate (encode x w1 b1 w2 b2 w3 b3) (relErr x (decode (encode x w1 b1 w2 b2 w3 b3) w4 b4 w5 b5 w6 b6))
          (cosSim x (decode (encode x w1 b1 w2 b2 w3 b3) w4 b4 w5 b5 w6 b6)) (coords (bmu (dist x som))) g1 c1 g2 c2) (ix2 R q) := by
  obtain ⟨n, hk, hi⟩ := node_eq xk x som r R hrow hx hw
  obtain ⟨he, hs⟩ := measures_eq xk x w1 w4 b4 w5 b5 w6 b6 r R hrow _ _ (code_eq xk x w1 b1 w2 b2 w3 b3 w6 r R hrow) hx h6 hb
  have hc := coords_apply (bmu (F := Ideal) (dist (F := Ideal) x som)) R
  refine Eq.trans ?_ (softmaxRows_apply _ R q).symm
  unfold blockOut
  rw [shares_apply]
  refine congrArg (fun l => softmax l q) (funext fun t => ?_)
  refine Eq.trans ?_ (gate_apply _ _ _ _ g1 c1 g2 c2 R t).symm
  rw [logits_apply, row10, row4]
  refine congrArg (fun a => lin (mat g2) (vec c2) (layer (mat g1) (vec c1) a) t) (funext fun k => ?_)
  rw [gateIn_apply, he, hs, tenths_apply, tenths_apply, row_words _ _ r R n hk hi, col_words _ _ r R n hk hi, tenth_quotient,
    tenth_quotient, ← hc.1, ← hc.2, funext (code_eq xk x w1 b1 w2 b2 w3 b3 w6 r R hrow)]

end

end Cert.Hand
-- ==== Proof.Finite.lean ====
module

public import proofs.«01_k».proof.Proof.Equal
public import proofs.«01_k».proof.Proof.Gen.Pre_rows_finite

/-! What the precondition says of the arguments: every sample, every weight of the map, and the decoder's last matrix and
bias are real numbers. -/

@[expose] public section

set_option maxRecDepth 16384

noncomputable section

namespace Cert.Pre_rows_finite

open Cert.Hand Cert.Pre_rows_finite.Gen Idealize.ShloMosaic

/-- A number whose comparison with infinity holds is real. -/
theorem real_of_bit {a : Ideal .f32} (h : BitVec.ofBool (decide (FloatOps.absf a < Ideal.ofBits .f32 2139095040#32)) = 1#1) :
    ∃ t : ℝ, (a : EReal) = t := by
  rw [ofBits_top] at h
  by_cases hlt : FloatOps.absf a < (⊤ : EReal)
  · exact finite_of_abs_lt hlt
  · rw [decide_eq_false hlt] at h
    exact absurd h (by decide)

variable (a0 : FVec Ideal S16384x128 .f32) (a1 : FVec Ideal S10x10x128 .f32) (a2 : FVec Ideal S128x64 .f32) (a3 : FVec Ideal S64 .f32)
  (a4 : FVec Ideal S64x32 .f32) (a5 : FVec Ideal S32 .f32) (a6 : FVec Ideal S32x4 .f32) (a7 : FVec Ideal S4 .f32) (a8 : FVec Ideal S4x32 .f32)
  (a9 : FVec Ideal S32 .f32) (a10 : FVec Ideal S32x64 .f32) (a11 : FVec Ideal S64 .f32) (a12 : FVec Ideal S64x128 .f32) (a13 : FVec Ideal S128 .f32)
  (a14 : FVec Ideal S8x10 .f32) (a15 : FVec Ideal S10 .f32) (a16 : FVec Ideal S10x4 .f32) (a17 : FVec Ideal S4 .f32)
  (h : fn (F := Ideal) a0 a1 a2 a3 a4 a5 a6 a7 a8 a9 a10 a11 a12 a13 a14 a15 a16 a17 = fun _ => 1#1)

include h

/-- The samples are real. -/
theorem sample_real (r : Fin 16384) : ∃ X : Fin 128 → ℝ, ∀ d, a0 (ix2 r d) = X d := by
  have hx : ∀ d, ∃ t : ℝ, a0 (ix2 r d) = t := fun d => by
    have e := congrFun h (ix2 ⟨r.val, by omega⟩ d)
    unfold fn at e
    pointwise at e
    exact real_of_bit e
  choose X hX using hx
  exact ⟨X, hX⟩

/-- The map's weights are real. -/
theorem map_real : ∃ W : Fin 100 → Fin 128 → ℝ, ∀ n d, shapeCast S100x128 a1 shapeCasts_S10x10x128_S100x128 (ix2 n d) = W n d := by
  have hx : ∀ n d, ∃ t : ℝ, shapeCast S100x128 a1 shapeCasts_S10x10x128_S100x128 (ix2 n d) = t := fun n d => by
    have e := congrFun h (ix2 ⟨16384 + n.val, by omega⟩ d)
    unfold fn at e
    dsimp only at e
    generalize shapeCast S100x128 a1 _ = w at e ⊢
    pointwise at e
    exact real_of_bit e
  choose W hW using hx
  exact ⟨W, hW⟩

/-- The decoder's last matrix is real. -/
theorem matrix_real : ∃ M : Fin 64 → Fin 128 → ℝ, ∀ j d, a12 (ix2 j d) = M j d := by
  have hx : ∀ j d, ∃ t : ℝ, a12 (ix2 j d) = t := fun j d => by
    have e := congrFun h (ix2 ⟨16484 + j.val, by omega⟩ d)
    unfold fn at e
    pointwise at e
    rw [dif_neg (by omega), dif_neg (by omega), dif_pos (by omega),
      show (⟨16484 + j.val - 16384 - 100, by omega⟩ : Fin 64) = j from Fin.ext (by dsimp only; omega)] at e
    exact real_of_bit e
  choose M hM using hx
  exact ⟨M, hM⟩

/-- The decoder's last bias is real. -/
theorem bias_real : ∃ B : Fin 128 → ℝ, ∀ d, a13 (ix1 d) = B d := by
  have hx : ∀ d, ∃ t : ℝ, a13 (ix1 d) = t := fun d => by
    have e := congrFun h (ix2 ⟨16548, by omega⟩ d)
    unfold fn at e
    pointwise at e
    exact real_of_bit e
  choose B hB using hx
  exact ⟨B, hB⟩

end Cert.Pre_rows_finite
-- ==== Proof.Agree.lean ====
module

public import proofs.«01_k».proof.Proof.Small
public import proofs.«01_k».proof.Proof.KernelIdealRun
public import proofs.«01_k».proof.Proof.Finite

/-! The two programs agree over the extended reals: from equal arguments, with the samples, the map's weights and the
decoder's last layer finite, both end with the same result. -/

@[expose] public section

noncomputable section

namespace Cert.Hand

open Idealize.ShloMosaic Idealize.SL.Sem

/-- Where a chunk's row lies among all the samples. -/
theorem chunk_row (x : Cert.KernelIdeal.Hand.Arr Ideal Cert.KernelIdeal.S16384x128) (R : Fin 16384) (hk : R.val / 4096 < 4) (d : Fin 128) :
    Cert.KernelIdeal.Hand.chunk x (R.val / 4096) hk (ix2 ⟨R.val % 4096, Nat.mod_lt _ (by decide)⟩ d) = x (ix2 R d) :=
  congrArg (fun r => x (ix2 r d)) (Fin.ext (Nat.div_add_mod R.val 4096))

/-- The kernel's result is the reference's, from equal arguments. -/
theorem out_eq_res (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (hpre : Cert.Pre_KernelIdeal_rows_finite (hPre_rows_finite := Cert.Pre_rows_finite.Gen.facts) m)
    (c : Dev Cert.KernelIdeal.nD)
    (h : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) :
    Cert.ReferenceIdeal.Hand.res m' c = Cert.KernelIdeal.Hand.out m c := by
  obtain ⟨h0, h1, h2, h3, h4, h5, h6, h7, h8, h9, h10, h11, h12, h13, h14, h15, h16, h17⟩ := h
  have hp := hpre c
  funext i
  obtain ⟨R, q, rfl⟩ : ∃ (R : Fin 16384) (q : Fin 4), i = ix2 R q := ⟨i 0, i 1, funext fun k => by fin_cases k <;> rfl⟩
  unfold Cert.ReferenceIdeal.Hand.res Cert.ReferenceIdeal.Hand.gates Cert.ReferenceIdeal.Hand.recon Cert.ReferenceIdeal.Hand.code
  rw [h0, h1, h2, h3, h4, h5, h6, h7, h8, h9, h10, h11, h12, h13, h14, h15, h16, h17]
  exact (row_eq _ _ _ _ _ _ _ _ _ _ _ _ _ _ _ _ _ _ _ _ R (chunk_row _ R _) q (Cert.Pre_rows_finite.sample_real _ _ _ _ _ _ _ _ _ _ _ _ _ _ _ _ _ _ hp R)
    (Cert.Pre_rows_finite.map_real _ _ _ _ _ _ _ _ _ _ _ _ _ _ _ _ _ _ hp) (Cert.Pre_rows_finite.matrix_real _ _ _ _ _ _ _ _ _ _ _ _ _ _ _ _ _ _ hp)
    (Cert.Pre_rows_finite.bias_real _ _ _ _ _ _ _ _ _ _ _ _ _ _ _ _ _ _ hp)).symm

/-- The algebraic claim. -/
theorem agree : @Cert.algebraic_KernelIdeal_ReferenceIdeal_pre_rows_finite Cert.KernelIdeal.Gen.facts Cert.ReferenceIdeal.Gen.facts
    Cert.Pre_rows_finite.Gen.facts := by
  intro m ρ m' ρ' hpre hargs
  refine ⟨fun c => Cert.KernelIdeal.Hand.out m c, ?_, ?_⟩
  · exact (θ_run Cert.KernelIdeal.defs _ _).mono
      (fun r h c => ⟨(h.1 c).1.trans (Cert.KernelIdeal.Hand.G_eq m c), (h.1 c).2⟩) (Cert.KernelIdeal.Hand.run (F := Ideal) m ρ)
  · exact (θ_run Cert.ReferenceIdeal.defs _ _).mono
      (fun r h c => ⟨(h c).1.trans (out_eq_res m m' hpre c (hargs c)), (h c).2⟩) (Cert.ReferenceIdeal.Hand.run (F := Ideal) m' ρ')

end Cert.Hand
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_rows_finite
public import proofs.«01_k».proof.Proof.KernelFrame
public import proofs.«01_k».proof.Proof.KernelIdealFrame
public import proofs.«01_k».proof.Proof.Small
public import proofs.«01_k».proof.Proof.Agree
public import Idealize.ShloMosaic.Adequacy
public import Idealize.ShloMosaic.Init

@[expose] public section

noncomputable section

namespace Cert.Proof

open Idealize.ShloMosaic Idealize.SL.Sem Cert.Kernel

/-- Everything the certificate claims. -/
theorem claim : Cert.Claim := ⟨Cert.Kernel.Gen.facts, Cert.KernelIdeal.Gen.facts, Cert.ReferenceIdeal.Gen.facts, Cert.Pre_rows_finite.Gen.facts,
  fun m ρ _ => Cert.Kernel.Hand.frame (F := Bits) m ρ, fun m ρ _ => Cert.KernelIdeal.Hand.frame (F := Ideal) m ρ,
  fun m ρ _ => Cert.KernelIdeal.Hand.frame (F := Ideal) m ρ,
  Cert.Hand.frame_reference, fun m ρ _ => Cert.Hand.frame_reference m ρ trivial, Cert.Hand.preserves, Cert.Hand.agree⟩

end Cert.Proof

end
